-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v453) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x32x64 : Shape := ⟨3, ![2048, 32, 64]⟩
abbrev S128x16 : Shape := ⟨2, ![128, 16]⟩
abbrev S_ : Shape := ⟨0, ![]⟩

class Facts : Prop where
  bcast_S_S2048x32x64 : S_.BroadcastsInDim S2048x32x64 (![] : Fin 0 → Fin S2048x32x64.rank)
  reducesTo_S2048x32x64_S_d0_1_2 : S2048x32x64.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_v10 : IVec S_ 1) (main_v15 : IVec S128x16 1) (main_c_5 : IVec S_ 1) : IVec S_ 1 :=
  let main_v16 : IVec S_ 1 := (fun x v => Host.reduce IntOp.andi x v reducesTo_S128x16_S_d0_1 h_S_) main_v15 main_c_5
  let main_v17 : IVec S_ 1 := andi main_v10 main_v16
  main_v17

def fn {F : FTy → Type} [FloatOps F] (main_arg0 : FVec F S2048x32x64 .f32) (main_arg1 : IVec S128x16 32) (main_arg2 : IVec S128x16 32) : IVec S_ 1 :=
  let main_v0 : FVec F S2048x32x64 .f32 := Host.absf main_arg0
  let main_cst : FVec F S_ .f32 := constant S_ .f32 0x7F800000#32
  let main_v1 : FVec F S2048x32x64 .f32 := broadcastInDim S2048x32x64 ![] bcast_S_S2048x32x64 main_cst
  let main_v2 : IVec S2048x32x64 1 := cmpf .olt main_v0 main_v1
  let main_c : IVec S_ 1 := constantI S_ 1 1#1
  let main_v3 : IVec S_ 1 := (fun x v => Host.reduce IntOp.andi x v reducesTo_S2048x32x64_S_d0_1_2 h_S_) main_v2 main_c
  let main_c_0 : IVec S_ 32 := constantI S_ 32 0#32
  let main_v4 : IVec S128x16 32 := broadcastInDim S128x16 ![] bcast_S_S128x16 main_c_0
  let main_v5 : IVec S128x16 1 := cmpi .sge main_arg1 main_v4
  let main_c_1 : IVec S_ 32 := constantI S_ 32 64#32
  let main_v6 : IVec S128x16 32 := broadcastInDim S128x16 ![] bcast_S_S128x16 main_c_1
  let main_v7 : IVec S128x16 1 := cmpi .slt main_arg1 main_v6
  let main_v8 : IVec S128x16 1 := andi main_v5 main_v7
  let main_c_2 : IVec S_ 1 := constantI S_ 1 1#1
  let main_v9 : IVec S_ 1 := (fun x v => Host.reduce IntOp.andi x v reducesTo_S128x16_S_d0_1 h_S_) main_v8 main_c_2
  let main_v10 : IVec S_ 1 := andi main_v3 main_v9
  let main_c_3 : IVec S_ 32 := constantI S_ 32 0#32
  let main_v11 : IVec S128x16 32 := broadcastInDim S128x16 ![] bcast_S_S128x16 main_c_3
  let main_v12 : IVec S128x16 1 := cmpi .sge main_arg2 main_v11
  let main_c_4 : IVec S_ 32 := constantI S_ 32 64#32
  let main_v13 : IVec S128x16 32 := broadcastInDim S128x16 ![] bcast_S_S128x16 main_c_4
  let main_v14 : IVec S128x16 1 := cmpi .slt main_arg2 main_v13
  let main_v15 : IVec S128x16 1 := andi main_v12 main_v14
  let main_c_5 : IVec S_ 1 := constantI S_ 1 1#1
  fn_part1 (F := F) main_v10 main_v15 main_c_5
-- ==== Kernel.lean ====
abbrev S2048x32x64 : Shape := ⟨3, ![2048, 32, 64]⟩
abbrev S128x16 : Shape := ⟨2, ![128, 16]⟩
abbrev S2048x16x64 : Shape := ⟨3, ![2048, 16, 64]⟩
abbrev S32768x64 : Shape := ⟨2, ![32768, 64]⟩
abbrev S64 : Shape := ⟨1, ![64]⟩
abbrev S16x128 : Shape := ⟨2, ![16, 128]⟩
abbrev S1x16x128 : Shape := ⟨3, ![1, 16, 128]⟩
abbrev S64x1x1 : Shape := ⟨3, ![64, 1, 1]⟩
abbrev S64x16x128 : Shape := ⟨3, ![64, 16, 128]⟩
abbrev S64x2048 : Shape := ⟨2, ![64, 2048]⟩
abbrev S256x8x128 : Shape := ⟨3, ![256, 8, 128]⟩
abbrev S128x64 : Shape := ⟨2, ![128, 64]⟩
abbrev S1x8x128 : Shape := ⟨3, ![1, 8, 128]⟩
abbrev S8x128 : Shape := ⟨2, ![8, 128]⟩
abbrev S128x2048 : Shape := ⟨2, ![128, 2048]⟩
abbrev S16x2048 : Shape := ⟨2, ![16, 2048]⟩
abbrev S128 : Shape := ⟨1, ![128]⟩
abbrev S1x128 : Shape := ⟨2, ![1, 128]⟩
abbrev S1x1x128 : Shape := ⟨3, ![1, 1, 128]⟩

abbrev nBuf : Space → Nat
  | .hbm => 25
  | .vmem => 9
  | .smem => 0
  | _ => 0

abbrev bufTy : (tb : Table) → Fin (tcTables nBuf tb) → BufTy
  | .hbm, ⟨0, _⟩ => ⟨S2048x32x64, .f32⟩
  | .hbm, ⟨1, _⟩ => ⟨S128x16, .i32⟩
  | .hbm, ⟨2, _⟩ => ⟨S128x16, .i32⟩
  | .hbm, ⟨3, _⟩ => ⟨S2048x16x64, .f32⟩
  | .hbm, ⟨4, _⟩ => ⟨S32768x64, .f32⟩
  | .hbm, ⟨5, _⟩ => ⟨S2048x16x64, .f32⟩
  | .hbm, ⟨6, _⟩ => ⟨S32768x64, .f32⟩
  | .hbm, ⟨7, _⟩ => ⟨S64, .i32⟩
  | .hbm, ⟨8, _⟩ => ⟨S16x128, .i32⟩
  | .hbm, ⟨9, _⟩ => ⟨S1x16x128, .i32⟩
  | .hbm, ⟨10, _⟩ => ⟨S64x1x1, .i32⟩
  | .hbm, ⟨11, _⟩ => ⟨S64x16x128, .i32⟩
  | .hbm, ⟨12, _⟩ => ⟨S64x16x128, .i32⟩
  | .hbm, ⟨13, _⟩ => ⟨S64x16x128, .i1⟩
  | .hbm, ⟨14, _⟩ => ⟨S64x16x128, .f32⟩
  | .hbm, ⟨15, _⟩ => ⟨S64x2048, .f32⟩
  | .hbm, ⟨16, _⟩ => ⟨S16x128, .i32⟩
  | .hbm, ⟨17, _⟩ => ⟨S1x16x128, .i32⟩
  | .hbm, ⟨18, _⟩ => ⟨S64x1x1, .i32⟩
  | .hbm, ⟨19, _⟩ => ⟨S64x16x128, .i32⟩
  | .hbm, ⟨20, _⟩ => ⟨S64x16x128, .i32⟩
  | .hbm, ⟨21, _⟩ => ⟨S64x16x128, .i1⟩
  | .hbm, ⟨22, _⟩ => ⟨S64x16x128, .f32⟩
  | .hbm, ⟨23, _⟩ => ⟨S64x2048, .f32⟩
  | .hbm, ⟨24, _⟩ => ⟨S256x8x128, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S64x2048, .f32⟩
  | .local _ .vmem, ⟨5, _⟩ => ⟨S64x2048, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2048x32x64 : Shape := ⟨3, ![2048, 32, 64]⟩
abbrev S128x16 : Shape := ⟨2, ![128, 16]⟩
abbrev S2048x16x64 : Shape := ⟨3, ![2048, 16, 64]⟩
abbrev S_ : Shape := ⟨0, ![]⟩
abbrev S128x16x1 : Shape := ⟨3, ![128, 16, 1]⟩
abbrev S1 : Shape := ⟨1, ![1]⟩
abbrev S1x1x1 : Shape := ⟨3, ![1, 1, 1]⟩
abbrev S2048x16x128x16 : Shape := ⟨4, ![2048, 16, 128, 16]⟩
abbrev S2048x128x16x16 : Shape := ⟨4, ![2048, 128, 16, 16]⟩
abbrev S16x16 : Shape := ⟨2, ![16, 16]⟩
abbrev S1x1x16x16 : Shape := ⟨4, ![1, 1, 16, 16]⟩
abbrev S2048x128 : Shape := ⟨2, ![2048, 128]⟩
abbrev S2048x128x1x1 : Shape := ⟨4, ![2048, 128, 1, 1]⟩
abbrev S256x8x128 : Shape := ⟨3, ![256, 8, 128]⟩

abbrev nBuf : Space → Nat
  | .hbm => 565
  | .vmem => 0
  | .smem => 0
  | _ => 0

abbrev hbmTy0_0 (i : Nat) : BufTy := match i % 128 with
  | 0 => ⟨S2048x32x64, .f32⟩
  | 1 => ⟨S128x16, .i32⟩
  | 2 => ⟨S128x16, .i32⟩
  | 3 => ⟨S2048x16x64, .f32⟩
  | 4 => ⟨S2048x16x64, .f32⟩
  | 5 => ⟨S_, .i32⟩
  | 6 => ⟨S128x16, .i32⟩
  | 7 => ⟨S128x16, .i1⟩
  | 8 => ⟨S_, .i32⟩
  | 9 => ⟨S128x16, .i32⟩
  | 10 => ⟨S128x16, .i32⟩
  | 11 => ⟨S128x16, .i32⟩
  | 12 => ⟨S128x16x1, .i32⟩
  | 13 => ⟨S1, .i32⟩
  | 14 => ⟨S_, .i32⟩
  | 15 => ⟨S128x16x1, .i32⟩
  | 16 => ⟨S128x16x1, .i1⟩
  | 17 => ⟨S1x1x1, .i32⟩
  | 18 => ⟨S128x16x1, .i32⟩
  | 19 => ⟨S128x16x1, .i1⟩
  | 20 => ⟨S128x16x1, .i1⟩
  | 21 => ⟨S_, .i1⟩
  | 22 => ⟨S128x16, .i1⟩
  | 23 => ⟨S2048x16x128x16, .f32⟩
  | 24 => ⟨S2048x16x128x16, .i1⟩
  | 25 => ⟨S_, .f32⟩
  | 26 => ⟨S2048x16x128x16, .f32⟩
  | 27 => ⟨S2048x16x128x16, .f32⟩
  | 28 => ⟨S2048x128x16x16, .f32⟩
  | 29 => ⟨S_, .i32⟩
  | 30 => ⟨S128x16, .i32⟩
  | 31 => ⟨S128x16, .i1⟩
  | 32 => ⟨S_, .i32⟩
  | 33 => ⟨S128x16, .i32⟩
  | 34 => ⟨S128x16, .i32⟩
  | 35 => ⟨S128x16, .i32⟩
  | 36 => ⟨S128x16x1, .i32⟩
  | 37 => ⟨S1, .i32⟩
  | 38 => ⟨S_, .i32⟩
  | 39 => ⟨S128x16x1, .i32⟩
  | 40 => ⟨S128x16x1, .i1⟩
  | 41 => ⟨S1x1x1, .i32⟩
  | 42 => ⟨S128x16x1, .i32⟩
  | 43 => ⟨S128x16x1, .i1⟩
  | 44 => ⟨S128x16x1, .i1⟩
  | 45 => ⟨S_, .i1⟩
  | 46 => ⟨S128x16, .i1⟩
  | 47 => ⟨S2048x16x128x16, .f32⟩
  | 48 => ⟨S2048x16x128x16, .i1⟩
  | 49 => ⟨S_, .f32⟩
  | 50 => ⟨S2048x16x128x16, .f32⟩
  | 51 => ⟨S2048x16x128x16, .f32⟩
  | 52 => ⟨S2048x128x16x16, .f32⟩
  | 53 => ⟨S16x16, .i32⟩
  | 54 => ⟨S16x16, .i32⟩
  | 55 => ⟨S_, .i32⟩
  | 56 => ⟨S16x16, .i32⟩
  | 57 => ⟨S16x16, .i32⟩
  | 58 => ⟨S16x16, .i1⟩
  | 59 => ⟨S16x16, .f32⟩
  | 60 => ⟨S1x1x16x16, .f32⟩
  | 61 => ⟨S2048x128x16x16, .f32⟩
  | 62 => ⟨S2048x128x16x16, .f32⟩
  | 63 => ⟨S_, .f32⟩
  | 64 => ⟨S2048x128, .f32⟩
  | 65 => ⟨S2048x128x1x1, .f32⟩
  | 66 => ⟨S2048x128x1x1, .f32⟩
  | 67 => ⟨S1x1x16x16, .f32⟩
  | 68 => ⟨S2048x128x16x16, .f32⟩
  | 69 => ⟨S2048x128x16x16, .f32⟩
  | 70 => ⟨S2048x128x16x16, .f32⟩
  | 71 => ⟨S2048x128x16x16, .f32⟩
  | 72 => ⟨S2048x128x16x16, .f32⟩
  | 73 => ⟨S1x1x16x16, .f32⟩
  | 74 => ⟨S2048x128x16x16, .f32⟩
  | 75 => ⟨S2048x128x16x16, .f32⟩
  | 76 => ⟨S_, .f32⟩
  | 77 => ⟨S2048x128, .f32⟩
  | 78 => ⟨S2048x128x1x1, .f32⟩
  | 79 => ⟨S2048x128x1x1, .f32⟩
  | 80 => ⟨S_, .f32⟩
  | 81 => ⟨S2048x128x1x1, .f32⟩
  | 82 => ⟨S2048x128x1x1, .f32⟩
  | 83 => ⟨S1x1x16x16, .f32⟩
  | 84 => ⟨S2048x128x16x16, .f32⟩
  | 85 => ⟨S2048x128x16x16, .f32⟩
  | 86 => ⟨S2048x128x16x16, .f32⟩
  | 87 => ⟨S2048x128x16x16, .f32⟩
  | 88 => ⟨S2048x128x16x16, .f32⟩
  | 89 => ⟨S1x1x16x16, .f32⟩
  | 90 => ⟨S2048x128x16x16, .f32⟩
  | 91 => ⟨S2048x128x16x16, .f32⟩
  | 92 => ⟨S_, .f32⟩
  | 93 => ⟨S2048x128, .f32⟩
  | 94 => ⟨S2048x128x1x1, .f32⟩
  | 95 => ⟨S2048x128x1x1, .f32⟩
  | 96 => ⟨S_, .f32⟩
  | 97 => ⟨S2048x128x1x1, .f32⟩
  | 98 => ⟨S2048x128x1x1, .f32⟩
  | 99 => ⟨S1x1x16x16, .f32⟩
  | 100 => ⟨S2048x128x16x16, .f32⟩
  | 101 => ⟨S2048x128x16x16, .f32⟩
  | 102 => ⟨S2048x128x16x16, .f32⟩
  | 103 => ⟨S2048x128x16x16, .f32⟩
  | 104 => ⟨S2048x128x16x16, .f32⟩
  | 105 => ⟨S1x1x16x16, .f32⟩
  | 106 => ⟨S2048x128x16x16, .f32⟩
  | 107 => ⟨S2048x128x16x16, .f32⟩
  | 108 => ⟨S_, .f32⟩
  | 109 => ⟨S2048x128, .f32⟩
  | 110 => ⟨S2048x128x1x1, .f32⟩
  | 111 => ⟨S2048x128x1x1, .f32⟩
  | 112 => ⟨S_, .f32⟩
  | 113 => ⟨S2048x128x1x1, .f32⟩
  | 114 => ⟨S2048x128x1x1, .f32⟩
  | 115 => ⟨S1x1x16x16, .f32⟩
  | 116 => ⟨S2048x128x16x16, .f32⟩
  | 117 => ⟨S2048x128x16x16, .f32⟩
  | 118 => ⟨S2048x128x16x16, .f32⟩
  | 119 => ⟨S2048x128x16x16, .f32⟩
  | 120 => ⟨S2048x128x16x16, .f32⟩
  | 121 => ⟨S1x1x16x16, .f32⟩
  | 122 => ⟨S2048x128x16x16, .f32⟩
  | 123 => ⟨S2048x128x16x16, .f32⟩
  | 124 => ⟨S_, .f32⟩
  | 125 => ⟨S2048x128, .f32⟩
  | 126 => ⟨S2048x128x1x1, .f32⟩
  | 127 => ⟨S2048x128x1x1, .f32⟩
  | _ => ⟨S2048x32x64, .f32⟩

abbrev hbmTy0_1 (i : Nat) : BufTy := match i % 128 with
  | 0 => ⟨S_, .f32⟩
  | 1 => ⟨S2048x128x1x1, .f32⟩
  | 2 => ⟨S2048x128x1x1, .f32⟩
  | 3 => ⟨S1x1x16x16, .f32⟩
  | 4 => ⟨S2048x128x16x16, .f32⟩
  | 5 => ⟨S2048x128x16x16, .f32⟩
  | 6 => ⟨S2048x128x16x16, .f32⟩
  | 7 => ⟨S2048x128x16x16, .f32⟩
  | 8 => ⟨S2048x128x16x16, .f32⟩
  | 9 => ⟨S1x1x16x16, .f32⟩
  | 10 => ⟨S2048x128x16x16, .f32⟩
  | 11 => ⟨S2048x128x16x16, .f32⟩
  | 12 => ⟨S_, .f32⟩
  | 13 => ⟨S2048x128, .f32⟩
  | 14 => ⟨S2048x128x1x1, .f32⟩
  | 15 => ⟨S2048x128x1x1, .f32⟩
  | 16 => ⟨S_, .f32⟩
  | 17 => ⟨S2048x128x1x1, .f32⟩
  | 18 => ⟨S2048x128x1x1, .f32⟩
  | 19 => ⟨S1x1x16x16, .f32⟩
  | 20 => ⟨S2048x128x16x16, .f32⟩
  | 21 => ⟨S2048x128x16x16, .f32⟩
  | 22 => ⟨S2048x128x16x16, .f32⟩
  | 23 => ⟨S2048x128x16x16, .f32⟩
  | 24 => ⟨S2048x128x16x16, .f32⟩
  | 25 => ⟨S1x1x16x16, .f32⟩
  | 26 => ⟨S2048x128x16x16, .f32⟩
  | 27 => ⟨S2048x128x16x16, .f32⟩
  | 28 => ⟨S_, .f32⟩
  | 29 => ⟨S2048x128, .f32⟩
  | 30 => ⟨S2048x128x1x1, .f32⟩
  | 31 => ⟨S2048x128x1x1, .f32⟩
  | 32 => ⟨S_, .f32⟩
  | 33 => ⟨S2048x128x1x1, .f32⟩
  | 34 => ⟨S2048x128x1x1, .f32⟩
  | 35 => ⟨S1x1x16x16, .f32⟩
  | 36 => ⟨S2048x128x16x16, .f32⟩
  | 37 => ⟨S2048x128x16x16, .f32⟩
  | 38 => ⟨S2048x128x16x16, .f32⟩
  | 39 => ⟨S2048x128x16x16, .f32⟩
  | 40 => ⟨S2048x128x16x16, .f32⟩
  | 41 => ⟨S1x1x16x16, .f32⟩
  | 42 => ⟨S2048x128x16x16, .f32⟩
  | 43 => ⟨S2048x128x16x16, .f32⟩
  | 44 => ⟨S_, .f32⟩
  | 45 => ⟨S2048x128, .f32⟩
  | 46 => ⟨S2048x128x1x1, .f32⟩
  | 47 => ⟨S2048x128x1x1, .f32⟩
  | 48 => ⟨S_, .f32⟩
  | 49 => ⟨S2048x128x1x1, .f32⟩
  | 50 => ⟨S2048x128x1x1, .f32⟩
  | 51 => ⟨S1x1x16x16, .f32⟩
  | 52 => ⟨S2048x128x16x16, .f32⟩
  | 53 => ⟨S2048x128x16x16, .f32⟩
  | 54 => ⟨S2048x128x16x16, .f32⟩
  | 55 => ⟨S2048x128x16x16, .f32⟩
  | 56 => ⟨S2048x128x16x16, .f32⟩
  | 57 => ⟨S1x1x16x16, .f32⟩
  | 58 => ⟨S2048x128x16x16, .f32⟩
  | 59 => ⟨S2048x128x16x16, .f32⟩
  | 60 => ⟨S_, .f32⟩
  | 61 => ⟨S2048x128, .f32⟩
  | 62 => ⟨S2048x128x1x1, .f32⟩
  | 63 => ⟨S2048x128x1x1, .f32⟩
  | 64 => ⟨S_, .f32⟩
  | 65 => ⟨S2048x128x1x1, .f32⟩
  | 66 => ⟨S2048x128x1x1, .f32⟩
  | 67 => ⟨S1x1x16x16, .f32⟩
  | 68 => ⟨S2048x128x16x16, .f32⟩
  | 69 => ⟨S2048x128x16x16, .f32⟩
  | 70 => ⟨S2048x128x16x16, .f32⟩
  | 71 => ⟨S2048x128x16x16, .f32⟩
  | 72 => ⟨S2048x128x16x16, .f32⟩
  | 73 => ⟨S1x1x16x16, .f32⟩
  | 74 => ⟨S2048x128x16x16, .f32⟩
  | 75 => ⟨S2048x128x16x16, .f32⟩
  | 76 => ⟨S_, .f32⟩
  | 77 => ⟨S2048x128, .f32⟩
  | 78 => ⟨S2048x128x1x1, .f32⟩
  | 79 => ⟨S2048x128x1x1, .f32⟩
  | 80 => ⟨S_, .f32⟩
  | 81 => ⟨S2048x128x1x1, .f32⟩
  | 82 => ⟨S2048x128x1x1, .f32⟩
  | 83 => ⟨S1x1x16x16, .f32⟩
  | 84 => ⟨S2048x128x16x16, .f32⟩
  | 85 => ⟨S2048x128x16x16, .f32⟩
  | 86 => ⟨S2048x128x16x16, .f32⟩
  | 87 => ⟨S2048x128x16x16, .f32⟩
  | 88 => ⟨S2048x128x16x16, .f32⟩
  | 89 => ⟨S1x1x16x16, .f32⟩
  | 90 => ⟨S2048x128x16x16, .f32⟩
  | 91 => ⟨S2048x128x16x16, .f32⟩
  | 92 => ⟨S_, .f32⟩
  | 93 => ⟨S2048x128, .f32⟩
  | 94 => ⟨S2048x128x1x1, .f32⟩
  | 95 => ⟨S2048x128x1x1, .f32⟩
  | 96 => ⟨S_, .f32⟩
  | 97 => ⟨S2048x128x1x1, .f32⟩
  | 98 => ⟨S2048x128x1x1, .f32⟩
  | 99 => ⟨S1x1x16x16, .f32⟩
  | 100 => ⟨S2048x128x16x16, .f32⟩
  | 101 => ⟨S2048x128x16x16, .f32⟩
  | 102 => ⟨S2048x128x16x16, .f32⟩
  | 103 => ⟨S2048x128x16x16, .f32⟩
  | 104 => ⟨S2048x128x16x16, .f32⟩
  | 105 => ⟨S1x1x16x16, .f32⟩
  | 106 => ⟨S2048x128x16x16, .f32⟩
  | 107 => ⟨S2048x128x16x16, .f32⟩
  | 108 => ⟨S_, .f32⟩
  | 109 => ⟨S2048x128, .f32⟩
  | 110 => ⟨S2048x128x1x1, .f32⟩
  | 111 => ⟨S2048x128x1x1, .f32⟩
  | 112 => ⟨S_, .f32⟩
  | 113 => ⟨S2048x128x1x1, .f32⟩
  | 114 => ⟨S2048x128x1x1, .f32⟩
  | 115 => ⟨S1x1x16x16, .f32⟩
  | 116 => ⟨S2048x128x16x16, .f32⟩
  | 117 => ⟨S2048x128x16x16, .f32⟩
  | 118 => ⟨S2048x128x16x16, .f32⟩
  | 119 => ⟨S2048x128x16x16, .f32⟩
  | 120 => ⟨S2048x128x16x16, .f32⟩
  | 121 => ⟨S1x1x16x16, .f32⟩
  | 122 => ⟨S2048x128x16x16, .f32⟩
  | 123 => ⟨S2048x128x16x16, .f32⟩
  | 124 => ⟨S_, .f32⟩
  | 125 => ⟨S2048x128, .f32⟩
  | 126 => ⟨S2048x128x1x1, .f32⟩
  | 127 => ⟨S2048x128x1x1, .f32⟩
  | _ => ⟨S2048x32x64, .f32⟩

abbrev hbmTy0_2 (i : Nat) : BufTy := match i % 128 with
  | 0 => ⟨S_, .f32⟩
  | 1 => ⟨S2048x128x1x1, .f32⟩
  | 2 => ⟨S2048x128x1x1, .f32⟩
  | 3 => ⟨S1x1x16x16, .f32⟩
  | 4 => ⟨S2048x128x16x16, .f32⟩
  | 5 => ⟨S2048x128x16x16, .f32⟩
  | 6 => ⟨S2048x128x16x16, .f32⟩
  | 7 => ⟨S2048x128x16x16, .f32⟩
  | 8 => ⟨S2048x128x16x16, .f32⟩
  | 9 => ⟨S1x1x16x16, .f32⟩
  | 10 => ⟨S2048x128x16x16, .f32⟩
  | 11 => ⟨S2048x128x16x16, .f32⟩
  | 12 => ⟨S_, .f32⟩
  | 13 => ⟨S2048x128, .f32⟩
  | 14 => ⟨S2048x128x1x1, .f32⟩
  | 15 => ⟨S2048x128x1x1, .f32⟩
  | 16 => ⟨S_, .f32⟩
  | 17 => ⟨S2048x128x1x1, .f32⟩
  | 18 => ⟨S2048x128x1x1, .f32⟩
  | 19 => ⟨S1x1x16x16, .f32⟩
  | 20 => ⟨S2048x128x16x16, .f32⟩
  | 21 => ⟨S2048x128x16x16, .f32⟩
  | 22 => ⟨S2048x128x16x16, .f32⟩
  | 23 => ⟨S2048x128x16x16, .f32⟩
  | 24 => ⟨S2048x128x16x16, .f32⟩
  | 25 => ⟨S1x1x16x16, .f32⟩
  | 26 => ⟨S2048x128x16x16, .f32⟩
  | 27 => ⟨S2048x128x16x16, .f32⟩
  | 28 => ⟨S_, .f32⟩
  | 29 => ⟨S2048x128, .f32⟩
  | 30 => ⟨S2048x128x1x1, .f32⟩
  | 31 => ⟨S2048x128x1x1, .f32⟩
  | 32 => ⟨S_, .f32⟩
  | 33 => ⟨S2048x128x1x1, .f32⟩
  | 34 => ⟨S2048x128x1x1, .f32⟩
  | 35 => ⟨S1x1x16x16, .f32⟩
  | 36 => ⟨S2048x128x16x16, .f32⟩
  | 37 => ⟨S2048x128x16x16, .f32⟩
  | 38 => ⟨S2048x128x16x16, .f32⟩
  | 39 => ⟨S2048x128x16x16, .f32⟩
  | 40 => ⟨S2048x128x16x16, .f32⟩
  | 41 => ⟨S1x1x16x16, .f32⟩
  | 42 => ⟨S2048x128x16x16, .f32⟩
  | 43 => ⟨S2048x128x16x16, .f32⟩
  | 44 => ⟨S_, .f32⟩
  | 45 => ⟨S2048x128, .f32⟩
  | 46 => ⟨S2048x128x1x1, .f32⟩
  | 47 => ⟨S2048x128x1x1, .f32⟩
  | 48 => ⟨S_, .f32⟩
  | 49 => ⟨S2048x128x1x1, .f32⟩
  | 50 => ⟨S2048x128x1x1, .f32⟩
  | 51 => ⟨S2048x128, .f32⟩
  | 52 => ⟨S16x16, .i32⟩
  | 53 => ⟨S16x16, .i32⟩
  | 54 => ⟨S_, .i32⟩
  | 55 => ⟨S16x16, .i32⟩
  | 56 => ⟨S16x16, .i32⟩
  | 57 => ⟨S16x16, .i1⟩
  | 58 => ⟨S16x16, .f32⟩
  | 59 => ⟨S1x1x16x16, .f32⟩
  | 60 => ⟨S2048x128x16x16, .f32⟩
  | 61 => ⟨S2048x128x16x16, .f32⟩
  | 62 => ⟨S_, .f32⟩
  | 63 => ⟨S2048x128, .f32⟩
  | 64 => ⟨S2048x128x1x1, .f32⟩
  | 65 => ⟨S2048x128x1x1, .f32⟩
  | 66 => ⟨S1x1x16x16, .f32⟩
  | 67 => ⟨S2048x128x16x16, .f32⟩
  | 68 => ⟨S2048x128x16x16, .f32⟩
  | 69 => ⟨S2048x128x16x16, .f32⟩
  | 70 => ⟨S2048x128x16x16, .f32⟩
  | 71 => ⟨S2048x128x16x16, .f32⟩
  | 72 => ⟨S1x1x16x16, .f32⟩
  | 73 => ⟨S2048x128x16x16, .f32⟩
  | 74 => ⟨S2048x128x16x16, .f32⟩
  | 75 => ⟨S_, .f32⟩
  | 76 => ⟨S2048x128, .f32⟩
  | 77 => ⟨S2048x128x1x1, .f32⟩
  | 78 => ⟨S2048x128x1x1, .f32⟩
  | 79 => ⟨S_, .f32⟩
  | 80 => ⟨S2048x128x1x1, .f32⟩
  | 81 => ⟨S2048x128x1x1, .f32⟩
  | 82 => ⟨S1x1x16x16, .f32⟩
  | 83 => ⟨S2048x128x16x16, .f32⟩
  | 84 => ⟨S2048x128x16x16, .f32⟩
  | 85 => ⟨S2048x128x16x16, .f32⟩
  | 86 => ⟨S2048x128x16x16, .f32⟩
  | 87 => ⟨S2048x128x16x16, .f32⟩
  | 88 => ⟨S1x1x16x16, .f32⟩
  | 89 => ⟨S2048x128x16x16, .f32⟩
  | 90 => ⟨S2048x128x16x16, .f32⟩
  | 91 => ⟨S_, .f32⟩
  | 92 => ⟨S2048x128, .f32⟩
  | 93 => ⟨S2048x128x1x1, .f32⟩
  | 94 => ⟨S2048x128x1x1, .f32⟩
  | 95 => ⟨S_, .f32⟩
  | 96 => ⟨S2048x128x1x1, .f32⟩
  | 97 => ⟨S2048x128x1x1, .f32⟩
  | 98 => ⟨S1x1x16x16, .f32⟩
  | 99 => ⟨S2048x128x16x16, .f32⟩
  | 100 => ⟨S2048x128x16x16, .f32⟩
  | 101 => ⟨S2048x128x16x16, .f32⟩
  | 102 => ⟨S2048x128x16x16, .f32⟩
  | 103 => ⟨S2048x128x16x16, .f32⟩
  | 104 => ⟨S1x1x16x16, .f32⟩
  | 105 => ⟨S2048x128x16x16, .f32⟩
  | 106 => ⟨S2048x128x16x16, .f32⟩
  | 107 => ⟨S_, .f32⟩
  | 108 => ⟨S2048x128, .f32⟩
  | 109 => ⟨S2048x128x1x1, .f32⟩
  | 110 => ⟨S2048x128x1x1, .f32⟩
  | 111 => ⟨S_, .f32⟩
  | 112 => ⟨S2048x128x1x1, .f32⟩
  | 113 => ⟨S2048x128x1x1, .f32⟩
  | 114 => ⟨S1x1x16x16, .f32⟩
  | 115 => ⟨S2048x128x16x16, .f32⟩
  | 116 => ⟨S2048x128x16x16, .f32⟩
  | 117 => ⟨S2048x128x16x16, .f32⟩
  | 118 => ⟨S2048x128x16x16, .f32⟩
  | 119 => ⟨S2048x128x16x16, .f32⟩
  | 120 => ⟨S1x1x16x16, .f32⟩
  | 121 => ⟨S2048x128x16x16, .f32⟩
  | 122 => ⟨S2048x128x16x16, .f32⟩
  | 123 => ⟨S_, .f32⟩
  | 124 => ⟨S2048x128, .f32⟩
  | 125 => ⟨S2048x128x1x1, .f32⟩
  | 126 => ⟨S2048x128x1x1, .f32⟩
  | 127 => ⟨S_, .f32⟩
  | _ => ⟨S2048x32x64, .f32⟩

abbrev hbmTy0_3 (i : Nat) : BufTy := match i % 128 with
  | 0 => ⟨S2048x128x1x1, .f32⟩
  | 1 => ⟨S2048x128x1x1, .f32⟩
  | 2 => ⟨S1x1x16x16, .f32⟩
  | 3 => ⟨S2048x128x16x16, .f32⟩
  | 4 => ⟨S2048x128x16x16, .f32⟩
  | 5 => ⟨S2048x128x16x16, .f32⟩
  | 6 => ⟨S2048x128x16x16, .f32⟩
  | 7 => ⟨S2048x128x16x16, .f32⟩
  | 8 => ⟨S1x1x16x16, .f32⟩
  | 9 => ⟨S2048x128x16x16, .f32⟩
  | 10 => ⟨S2048x128x16x16, .f32⟩
  | 11 => ⟨S_, .f32⟩
  | 12 => ⟨S2048x128, .f32⟩
  | 13 => ⟨S2048x128x1x1, .f32⟩
  | 14 => ⟨S2048x128x1x1, .f32⟩
  | 15 => ⟨S_, .f32⟩
  | 16 => ⟨S2048x128x1x1, .f32⟩
  | 17 => ⟨S2048x128x1x1, .f32⟩
  | 18 => ⟨S1x1x16x16, .f32⟩
  | 19 => ⟨S2048x128x16x16, .f32⟩
  | 20 => ⟨S2048x128x16x16, .f32⟩
  | 21 => ⟨S2048x128x16x16, .f32⟩
  | 22 => ⟨S2048x128x16x16, .f32⟩
  | 23 => ⟨S2048x128x16x16, .f32⟩
  | 24 => ⟨S1x1x16x16, .f32⟩
  | 25 => ⟨S2048x128x16x16, .f32⟩
  | 26 => ⟨S2048x128x16x16, .f32⟩
  | 27 => ⟨S_, .f32⟩
  | 28 => ⟨S2048x128, .f32⟩
  | 29 => ⟨S2048x128x1x1, .f32⟩
  | 30 => ⟨S2048x128x1x1, .f32⟩
  | 31 => ⟨S_, .f32⟩
  | 32 => ⟨S2048x128x1x1, .f32⟩
  | 33 => ⟨S2048x128x1x1, .f32⟩
  | 34 => ⟨S1x1x16x16, .f32⟩
  | 35 => ⟨S2048x128x16x16, .f32⟩
  | 36 => ⟨S2048x128x16x16, .f32⟩
  | 37 => ⟨S2048x128x16x16, .f32⟩
  | 38 => ⟨S2048x128x16x16, .f32⟩
  | 39 => ⟨S2048x128x16x16, .f32⟩
  | 40 => ⟨S1x1x16x16, .f32⟩
  | 41 => ⟨S2048x128x16x16, .f32⟩
  | 42 => ⟨S2048x128x16x16, .f32⟩
  | 43 => ⟨S_, .f32⟩
  | 44 => ⟨S2048x128, .f32⟩
  | 45 => ⟨S2048x128x1x1, .f32⟩
  | 46 => ⟨S2048x128x1x1, .f32⟩
  | 47 => ⟨S_, .f32⟩
  | 48 => ⟨S2048x128x1x1, .f32⟩
  | 49 => ⟨S2048x128x1x1, .f32⟩
  | 50 => ⟨S1x1x16x16, .f32⟩
  | 51 => ⟨S2048x128x16x16, .f32⟩
  | 52 => ⟨S2048x128x16x16, .f32⟩
  | 53 => ⟨S2048x128x16x16, .f32⟩
  | 54 => ⟨S2048x128x16x16, .f32⟩
  | 55 => ⟨S2048x128x16x16, .f32⟩
  | 56 => ⟨S1x1x16x16, .f32⟩
  | 57 => ⟨S2048x128x16x16, .f32⟩
  | 58 => ⟨S2048x128x16x16, .f32⟩
  | 59 => ⟨S_, .f32⟩
  | 60 => ⟨S2048x128, .f32⟩
  | 61 => ⟨S2048x128x1x1, .f32⟩
  | 62 => ⟨S2048x128x1x1, .f32⟩
  | 63 => ⟨S_, .f32⟩
  | 64 => ⟨S2048x128x1x1, .f32⟩
  | 65 => ⟨S2048x128x1x1, .f32⟩
  | 66 => ⟨S1x1x16x16, .f32⟩
  | 67 => ⟨S2048x128x16x16, .f32⟩
  | 68 => ⟨S2048x128x16x16, .f32⟩
  | 69 => ⟨S2048x128x16x16, .f32⟩
  | 70 => ⟨S2048x128x16x16, .f32⟩
  | 71 => ⟨S2048x128x16x16, .f32⟩
  | 72 => ⟨S1x1x16x16, .f32⟩
  | 73 => ⟨S2048x128x16x16, .f32⟩
  | 74 => ⟨S2048x128x16x16, .f32⟩
  | 75 => ⟨S_, .f32⟩
  | 76 => ⟨S2048x128, .f32⟩
  | 77 => ⟨S2048x128x1x1, .f32⟩
  | 78 => ⟨S2048x128x1x1, .f32⟩
  | 79 => ⟨S_, .f32⟩
  | 80 => ⟨S2048x128x1x1, .f32⟩
  | 81 => ⟨S2048x128x1x1, .f32⟩
  | 82 => ⟨S1x1x16x16, .f32⟩
  | 83 => ⟨S2048x128x16x16, .f32⟩
  | 84 => ⟨S2048x128x16x16, .f32⟩
  | 85 => ⟨S2048x128x16x16, .f32⟩
  | 86 => ⟨S2048x128x16x16, .f32⟩
  | 87 => ⟨S2048x128x16x16, .f32⟩
  | 88 => ⟨S1x1x16x16, .f32⟩
  | 89 => ⟨S2048x128x16x16, .f32⟩
  | 90 => ⟨S2048x128x16x16, .f32⟩
  | 91 => ⟨S_, .f32⟩
  | 92 => ⟨S2048x128, .f32⟩
  | 93 => ⟨S2048x128x1x1, .f32⟩
  | 94 => ⟨S2048x128x1x1, .f32⟩
  | 95 => ⟨S_, .f32⟩
  | 96 => ⟨S2048x128x1x1, .f32⟩
  | 97 => ⟨S2048x128x1x1, .f32⟩
  | 98 => ⟨S1x1x16x16, .f32⟩
  | 99 => ⟨S2048x128x16x16, .f32⟩
  | 100 => ⟨S2048x128x16x16, .f32⟩
  | 101 => ⟨S2048x128x16x16, .f32⟩
  | 102 => ⟨S2048x128x16x16, .f32⟩
  | 103 => ⟨S2048x128x16x16, .f32⟩
  | 104 => ⟨S1x1x16x16, .f32⟩
  | 105 => ⟨S2048x128x16x16, .f32⟩
  | 106 => ⟨S2048x128x16x16, .f32⟩
  | 107 => ⟨S_, .f32⟩
  | 108 => ⟨S2048x128, .f32⟩
  | 109 => ⟨S2048x128x1x1, .f32⟩
  | 110 => ⟨S2048x128x1x1, .f32⟩
  | 111 => ⟨S_, .f32⟩
  | 112 => ⟨S2048x128x1x1, .f32⟩
  | 113 => ⟨S2048x128x1x1, .f32⟩
  | 114 => ⟨S1x1x16x16, .f32⟩
  | 115 => ⟨S2048x128x16x16, .f32⟩
  | 116 => ⟨S2048x128x16x16, .f32⟩
  | 117 => ⟨S2048x128x16x16, .f32⟩
  | 118 => ⟨S2048x128x16x16, .f32⟩
  | 119 => ⟨S2048x128x16x16, .f32⟩
  | 120 => ⟨S1x1x16x16, .f32⟩
  | 121 => ⟨S2048x128x16x16, .f32⟩
  | 122 => ⟨S2048x128x16x16, .f32⟩
  | 123 => ⟨S_, .f32⟩
  | 124 => ⟨S2048x128, .f32⟩
  | 125 => ⟨S2048x128x1x1, .f32⟩
  | 126 => ⟨S2048x128x1x1, .f32⟩
  | 127 => ⟨S_, .f32⟩
  | _ => ⟨S2048x32x64, .f32⟩

abbrev hbmTy0_4 (i : Nat) : BufTy := match i % 128 with
  | 0 => ⟨S2048x128x1x1, .f32⟩
  | 1 => ⟨S2048x128x1x1, .f32⟩
  | 2 => ⟨S1x1x16x16, .f32⟩
  | 3 => ⟨S2048x128x16x16, .f32⟩
  | 4 => ⟨S2048x128x16x16, .f32⟩
  | 5 => ⟨S2048x128x16x16, .f32⟩
  | 6 => ⟨S2048x128x16x16, .f32⟩
  | 7 => ⟨S2048x128x16x16, .f32⟩
  | 8 => ⟨S1x1x16x16, .f32⟩
  | 9 => ⟨S2048x128x16x16, .f32⟩
  | 10 => ⟨S2048x128x16x16, .f32⟩
  | 11 => ⟨S_, .f32⟩
  | 12 => ⟨S2048x128, .f32⟩
  | 13 => ⟨S2048x128x1x1, .f32⟩
  | 14 => ⟨S2048x128x1x1, .f32⟩
  | 15 => ⟨S_, .f32⟩
  | 16 => ⟨S2048x128x1x1, .f32⟩
  | 17 => ⟨S2048x128x1x1, .f32⟩
  | 18 => ⟨S1x1x16x16, .f32⟩
  | 19 => ⟨S2048x128x16x16, .f32⟩
  | 20 => ⟨S2048x128x16x16, .f32⟩
  | 21 => ⟨S2048x128x16x16, .f32⟩
  | 22 => ⟨S2048x128x16x16, .f32⟩
  | 23 => ⟨S2048x128x16x16, .f32⟩
  | 24 => ⟨S1x1x16x16, .f32⟩
  | 25 => ⟨S2048x128x16x16, .f32⟩
  | 26 => ⟨S2048x128x16x16, .f32⟩
  | 27 => ⟨S_, .f32⟩
  | 28 => ⟨S2048x128, .f32⟩
  | 29 => ⟨S2048x128x1x1, .f32⟩
  | 30 => ⟨S2048x128x1x1, .f32⟩
  | 31 => ⟨S_, .f32⟩
  | 32 => ⟨S2048x128x1x1, .f32⟩
  | 33 => ⟨S2048x128x1x1, .f32⟩
  | 34 => ⟨S1x1x16x16, .f32⟩
  | 35 => ⟨S2048x128x16x16, .f32⟩
  | 36 => ⟨S2048x128x16x16, .f32⟩
  | 37 => ⟨S2048x128x16x16, .f32⟩
  | 38 => ⟨S2048x128x16x16, .f32⟩
  | 39 => ⟨S2048x128x16x16, .f32⟩
  | 40 => ⟨S1x1x16x16, .f32⟩
  | 41 => ⟨S2048x128x16x16, .f32⟩
  | 42 => ⟨S2048x128x16x16, .f32⟩
  | 43 => ⟨S_, .f32⟩
  | 44 => ⟨S2048x128, .f32⟩
  | 45 => ⟨S2048x128x1x1, .f32⟩
  | 46 => ⟨S2048x128x1x1, .f32⟩
  | 47 => ⟨S_, .f32⟩
  | 48 => ⟨S2048x128x1x1, .f32⟩
  | 49 => ⟨S2048x128x1x1, .f32⟩
  | 50 => ⟨S2048x128, .f32⟩
  | 51 => ⟨S2048x128, .f32⟩
  | 52 => ⟨S256x8x128, .f32⟩
  | _ => ⟨S2048x32x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x32x64, .f32⟩

abbrev bufTy : (tb : Table) → Fin (tcTables nBuf tb) → BufTy
  | .hbm, ⟨i, _⟩ => hbmTy i
  | _, _ => ⟨S2048x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_c : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_cst : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_cst_0 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_1 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_2 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_cst_3 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_4 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_5 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_cst_6 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_7 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_8 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_9 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_10 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_11 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_12 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_13 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_14 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_15 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_16 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_17 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_18 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_cst_19 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_cst_20 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_cst_21 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_22 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_23 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_cst_24 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_25 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_26 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_cst_27 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_28 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_cst_29 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_c_30 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_cst_31 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_cst_32 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_cst_33 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_cst_34 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_cst_35 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_cst_36 : Ref sig .tc := ⟨.hbm, 363, rfl⟩
abbrev main_v278 : Ref sig .tc := ⟨.hbm, 364, rfl⟩
abbrev main_v279 : Ref sig .tc := ⟨.hbm, 365, rfl⟩
abbrev main_v280 : Ref sig .tc := ⟨.hbm, 366, rfl⟩
abbrev main_cst_37 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_v284 : Ref sig .tc := ⟨.hbm, 371, rfl⟩
abbrev main_v285 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_cst_38 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_cst_39 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_cst_40 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_cst_41 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_cst_42 : Ref sig .tc := ⟨.hbm, 411, rfl⟩
abbrev main_v320 : Ref sig .tc := ⟨.hbm, 412, rfl⟩
abbrev main_v321 : Ref sig .tc := ⟨.hbm, 413, rfl⟩
abbrev main_v322 : Ref sig .tc := ⟨.hbm, 414, rfl⟩
abbrev main_cst_43 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_cst_44 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_cst_45 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_v341 : Ref sig .tc := ⟨.hbm, 436, rfl⟩
abbrev main_v342 : Ref sig .tc := ⟨.hbm, 437, rfl⟩
abbrev main_v343 : Ref sig .tc := ⟨.hbm, 438, rfl⟩
abbrev main_v344 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_cst_46 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_cst_47 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_v359 : Ref sig .tc := ⟨.hbm, 456, rfl⟩
abbrev main_v360 : Ref sig .tc := ⟨.hbm, 457, rfl⟩
abbrev main_v361 : Ref sig .tc := ⟨.hbm, 458, rfl⟩
abbrev main_cst_48 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_cst_49 : Ref sig .tc := ⟨.hbm, 463, rfl⟩
abbrev main_v365 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_v370 : Ref sig .tc := ⟨.hbm, 469, rfl⟩
abbrev main_v371 : Ref sig .tc := ⟨.hbm, 470, rfl⟩
abbrev main_v372 : Ref sig .tc := ⟨.hbm, 471, rfl⟩
abbrev main_v373 : Ref sig .tc := ⟨.hbm, 472, rfl⟩
abbrev main_v374 : Ref sig .tc := ⟨.hbm, 473, rfl⟩
abbrev main_v375 : Ref sig .tc := ⟨.hbm, 474, rfl⟩
abbrev main_cst_50 : Ref sig .tc := ⟨.hbm, 475, rfl⟩
abbrev main_v376 : Ref sig .tc := ⟨.hbm, 476, rfl⟩
abbrev main_v377 : Ref sig .tc := ⟨.hbm, 477, rfl⟩
abbrev main_v378 : Ref sig .tc := ⟨.hbm, 478, rfl⟩
abbrev main_cst_51 : Ref sig .tc := ⟨.hbm, 479, rfl⟩
abbrev main_v379 : Ref sig .tc := ⟨.hbm, 480, rfl⟩
abbrev main_v380 : Ref sig .tc := ⟨.hbm, 481, rfl⟩
abbrev main_v381 : Ref sig .tc := ⟨.hbm, 482, rfl⟩
abbrev main_v382 : Ref sig .tc := ⟨.hbm, 483, rfl⟩
abbrev main_v383 : Ref sig .tc := ⟨.hbm, 484, rfl⟩
abbrev main_v384 : Ref sig .tc := ⟨.hbm, 485, rfl⟩
abbrev main_v385 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_cst_52 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_cst_53 : Ref sig .tc := ⟨.hbm, 495, rfl⟩
abbrev main_v393 : Ref sig .tc := ⟨.hbm, 496, rfl⟩
abbrev main_v394 : Ref sig .tc := ⟨.hbm, 497, rfl⟩
abbrev main_v395 : Ref sig .tc := ⟨.hbm, 498, rfl⟩
abbrev main_v396 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_v403 : Ref sig .tc := ⟨.hbm, 506, rfl⟩
abbrev main_cst_54 : Ref sig .tc := ⟨.hbm, 507, rfl⟩
abbrev main_v404 : Ref sig .tc := ⟨.hbm, 508, rfl⟩
abbrev main_v405 : Ref sig .tc := ⟨.hbm, 509, rfl⟩
abbrev main_v406 : Ref sig .tc := ⟨.hbm, 510, rfl⟩
abbrev main_cst_55 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_v415 : Ref sig .tc := ⟨.hbm, 520, rfl⟩
abbrev main_v416 : Ref sig .tc := ⟨.hbm, 521, rfl⟩
abbrev main_v417 : Ref sig .tc := ⟨.hbm, 522, rfl⟩
abbrev main_cst_56 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_cst_57 : Ref sig .tc := ⟨.hbm, 527, rfl⟩
abbrev main_v421 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_v429 : Ref sig .tc := ⟨.hbm, 536, rfl⟩
abbrev main_v430 : Ref sig .tc := ⟨.hbm, 537, rfl⟩
abbrev main_v431 : Ref sig .tc := ⟨.hbm, 538, rfl⟩
abbrev main_cst_58 : Ref sig .tc := ⟨.hbm, 539, rfl⟩
abbrev main_v432 : Ref sig .tc := ⟨.hbm, 540, rfl⟩
abbrev main_v433 : Ref sig .tc := ⟨.hbm, 541, rfl⟩
abbrev main_v434 : Ref sig .tc := ⟨.hbm, 542, rfl⟩
abbrev main_cst_59 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_v440 : Ref sig .tc := ⟨.hbm, 549, rfl⟩
abbrev main_v441 : Ref sig .tc := ⟨.hbm, 550, rfl⟩
abbrev main_v442 : Ref sig .tc := ⟨.hbm, 551, rfl⟩
abbrev main_v443 : Ref sig .tc := ⟨.hbm, 552, rfl⟩
abbrev main_v444 : Ref sig .tc := ⟨.hbm, 553, rfl⟩
abbrev main_v445 : Ref sig .tc := ⟨.hbm, 554, rfl⟩
abbrev main_cst_60 : Ref sig .tc := ⟨.hbm, 555, rfl⟩
abbrev main_v446 : Ref sig .tc := ⟨.hbm, 556, rfl⟩
abbrev main_v447 : Ref sig .tc := ⟨.hbm, 557, rfl⟩
abbrev main_v448 : Ref sig .tc := ⟨.hbm, 558, rfl⟩
abbrev main_cst_61 : Ref sig .tc := ⟨.hbm, 559, rfl⟩
abbrev main_v449 : Ref sig .tc := ⟨.hbm, 560, rfl⟩
abbrev main_v450 : Ref sig .tc := ⟨.hbm, 561, rfl⟩
abbrev main_v451 : Ref sig .tc := ⟨.hbm, 562, rfl⟩
abbrev main_v452 : Ref sig .tc := ⟨.hbm, 563, rfl⟩
abbrev main_v453 : Ref sig .tc := ⟨.hbm, 564, rfl⟩

abbrev nD : Nat := 1
abbrev τ : Topo := Topo.v7x

variable {F : FTy → Type} [FloatOps F]
-- ==== Proof.Compact.lean ====
/- The kernel's determinant of sixteen columns, written once as a loop over the printed vector operations. -/
module
public import proofs.«01_k».proof.Proof.Gen.KernelIdeal.Value
@[expose] public section

set_option maxRecDepth 16384

noncomputable section

namespace Cert.Householder

open Cert.KernelIdeal Cert.KernelIdeal.Gen Idealize.ShloMosaic Idealize.ShloMosaic.TcCoe

variable {F : FTy → Type} [FloatOps F]

/-- The row number of every entry of a block of eight rows. -/
def rowNo : IVec S8x128 32 := iota .tc S8x128 32 [0] iota_S8x128_d0_w32
/-- The number zero in every lane. -/
def zero1 : FVec F S1x128 .f32 := broadcast S1x128 (Scalar.ofBits .f32 0x00000000#32)
/-- The number one in every lane. -/
def one1 : FVec F S1x128 .f32 := broadcast S1x128 (Scalar.ofBits .f32 0x3F800000#32)
/-- The number zero in every entry of a block. -/
def zero8 : FVec F S8x128 .f32 := broadcast S8x128 (Scalar.ofBits .f32 0x00000000#32)
/-- The sum of a block over its rows. -/
def colSum (v : FVec F S8x128 .f32) : FVec F S1x128 .f32 :=
  shapeCast S1x128 (multiReduction .add [0] S128 v 0x00000000#32 reduces_S8x128_S128 (.inl rfl) rfl) shapeCasts_S128_S1x128
/-- One row copied to all rows of a block. -/
def spread (v : FVec F S1x128 .f32) : FVec F S8x128 .f32 := broadcastTo S8x128 v broadcasts_S1x128_S8x128

/-- Row `k` lies in a block of eight rows. -/
theorem row_slices (k : Fin 8) : S8x128.Slices ![k.val, 0] S1x128 := by
  revert k; decide

/-- One row of a block. -/
def rowOf (k : Fin 8) (v : FVec F S8x128 .f32) : FVec F S1x128 .f32 :=
  extractStridedSlice S1x128 ![k.val, 0] v (row_slices k)
/-- A block with the rows above row `k` set to zero. -/
def below (k : ℕ) (v : FVec F S8x128 .f32) : FVec F S8x128 .f32 :=
  select (cmpi .sge rowNo (broadcast S8x128 (BitVec.ofNat 32 k))) v zero8
/-- A block with row `k` replaced. -/
def setRow (k : ℕ) (x : FVec F S1x128 .f32) (v : FVec F S8x128 .f32) : FVec F S8x128 .f32 :=
  select (cmpi .eq rowNo (broadcast S8x128 (BitVec.ofNat 32 k))) (spread (shapeCast S1x128 x shapeCasts_S1x128_S1x128)) v
/-- The norm with the sign of the pivot. -/
def signed (n2 x : FVec F S1x128 .f32) : FVec F S1x128 .f32 :=
  select (cmpf .oge x zero1) (sqrt n2) (subf zero1 (sqrt n2))
/-- The scale of the reflection, zero where its denominator is not positive. -/
def scaleOf (n2 x : FVec F S1x128 .f32) : FVec F S1x128 .f32 :=
  select (cmpf .ogt (addf n2 (mulf (signed n2 x) x)) zero1) (divf one1 (addf n2 (mulf (signed n2 x) x))) zero1

/-- The sixteen columns: the upper eight rows and the lower eight rows of each. -/
abbrev Cols (F : FTy → Type) [FloatOps F] := (ℕ → FVec F S8x128 .f32) × (ℕ → FVec F S8x128 .f32)

/-- The squared norm of column `k` from the diagonal on, for a pivot in the upper rows. -/
def normT (k : ℕ) (s : Cols F) : FVec F S1x128 .f32 :=
  colSum (addf (mulf (below k (s.1 k)) (below k (s.1 k))) (mulf (s.2 k) (s.2 k)))
/-- The same for a pivot in the lower rows. -/
def normB (k : ℕ) (s : Cols F) : FVec F S1x128 .f32 :=
  colSum (mulf (below k (s.2 (k + 8))) (below k (s.2 (k + 8))))

/-- The upper half of the reflection's vector. -/
def vecT (k : Fin 8) (s : Cols F) : FVec F S8x128 .f32 :=
  setRow k.val (addf (rowOf k (s.1 k.val)) (signed (normT k.val s) (rowOf k (s.1 k.val)))) (below k.val (s.1 k.val))
/-- The reflection's vector for a pivot in the lower rows. -/
def vecB (k : Fin 8) (s : Cols F) : FVec F S8x128 .f32 :=
  setRow k.val (addf (rowOf k (s.2 (k.val + 8))) (signed (normB k.val s) (rowOf k (s.2 (k.val + 8))))) (below k.val (s.2 (k.val + 8)))

/-- The reflection that clears column `k` below the diagonal, applied to the later columns. -/
def stepT (k : Fin 8) (s : Cols F) : Cols F :=
  (fun j => if j ≤ k.val then s.1 j else
      subf (s.1 j) (mulf (mulf (spread (scaleOf (normT k.val s) (rowOf k (s.1 k.val)))) (vecT k s))
        (spread (colSum (addf (mulf (vecT k s) (s.1 j)) (mulf (s.2 k.val) (s.2 j)))))),
   fun j => if j ≤ k.val then s.2 j else
      subf (s.2 j) (mulf (mulf (spread (scaleOf (normT k.val s) (rowOf k (s.1 k.val)))) (s.2 k.val))
        (spread (colSum (addf (mulf (vecT k s) (s.1 j)) (mulf (s.2 k.val) (s.2 j)))))))
/-- The same for a pivot in the lower rows: the upper rows stay. -/
def stepB (k : Fin 8) (s : Cols F) : Cols F :=
  (s.1,
   fun j => if j ≤ k.val + 8 then s.2 j else
      subf (s.2 j) (mulf (mulf (spread (scaleOf (normB k.val s) (rowOf k (s.2 (k.val + 8))))) (vecB k s))
        (spread (colSum (mulf (vecB k s) (s.2 j))))))
/-- Minus the signed norm of a step. -/
def facT (k : Fin 8) (s : Cols F) : FVec F S1x128 .f32 := subf zero1 (signed (normT k.val s) (rowOf k (s.1 k.val)))
/-- The same for a pivot in the lower rows. -/
def facB (k : Fin 8) (s : Cols F) : FVec F S1x128 .f32 := subf zero1 (signed (normB k.val s) (rowOf k (s.2 (k.val + 8))))

/-- The columns before a step with a pivot in the upper rows. -/
def colsT (s : Cols F) : ℕ → Cols F
  | 0 => s
  | k + 1 => stepT (Fin.ofNat 8 k) (colsT s k)
/-- The columns before a step with a pivot in the lower rows. -/
def colsB (s : Cols F) : ℕ → Cols F
  | 0 => colsT s 8
  | k + 1 => stepB (Fin.ofNat 8 k) (colsB s k)
/-- The product of the upper steps' factors. -/
def prodT (s : Cols F) : ℕ → FVec F S1x128 .f32
  | 0 => facT 0 s
  | k + 1 => mulf (prodT s k) (facT (Fin.ofNat 8 (k + 1)) (colsT s (k + 1)))
/-- The product of all the steps' factors. -/
def prodB (s : Cols F) : ℕ → FVec F S1x128 .f32
  | 0 => prodT s 7
  | k + 1 => mulf (prodB s k) (facB (Fin.ofNat 8 k) (colsB s k))
/-- The determinant in every lane. -/
def dets (s : Cols F) : FVec F S1x128 .f32 := prodB s 8

/-- Sixteen rows of the gathered matrix lie in it. -/
theorem sample_slices (s : Fin 8) : S128x2048.Slices ![16 * s.val, 0] S16x2048 := by
  revert s; decide

/-- A half of a column of all lanes lies in a sample's rows. -/
theorem half_slices (r : Fin 2) (j : Fin 16) : S16x2048.Slices ![8 * r.val, 128 * j.val] S8x128 := by
  revert r j; decide

/-- The sixteen rows of sample `s`. -/
def sample (s : Fin 8) (x : FVec F S128x2048 .f32) : FVec F S16x2048 .f32 :=
  extractStridedSlice S16x2048 ![16 * s.val, 0] x (sample_slices s)
/-- Half `r` of column `j` in every lane. -/
def half (r : Fin 2) (j : Fin 16) (x : FVec F S16x2048 .f32) : FVec F S8x128 .f32 :=
  extractStridedSlice S8x128 ![8 * r.val, 128 * j.val] x (half_slices r j)
/-- The columns of a sample. -/
def colsOf (x : FVec F S16x2048 .f32) : Cols F :=
  (fun j => half 0 (Fin.ofNat 16 j) x, fun j => half 1 (Fin.ofNat 16 j) x)
/-- The product that gathers the chosen columns of eight samples. -/
def gathered (x : Vec F S128x64 .f32) (o : Vec F S64x2048 .f32) : FVec F S128x2048 .f32 :=
  matmul dot_S128x64_S64x2048_S128x2048_1_0_0_1_n_n (some .fp32) (shapeCast S128x64 x shapeCasts_S128x64_S128x64)
    (shapeCast S64x2048 o shapeCasts_S64x2048_S64x2048) (constant S128x2048 .f32 0x00000000#32)
/-- The row that is stored for sample `s`. -/
def rowOut (s : Fin 8) (x0 x1 : Vec F S128x64 .f32) (x2 x3 : Vec F S64x2048 .f32) : FVec F S1x1x128 .f32 :=
  shapeCast S1x1x128 (shapeCast S128 (mulf (dets (colsOf (sample s (gathered x0 x2)))) (dets (colsOf (sample s (gathered x1 x3)))))
    shapeCasts_S1x128_S128) shapeCasts_S128_S1x1x128

end Cert.Householder

end
-- ==== Proof.Pieces.lean ====
/- What the kernel's body stores, sample by sample, is the compact determinant of its blocks. -/
module

public import proofs.«01_k».proof.Proof.Compact

@[expose] public section

set_option maxRecDepth 65536
set_option maxHeartbeats 0

noncomputable section

namespace Cert.Householder

open Cert.KernelIdeal Cert.KernelIdeal.Gen Idealize.ShloMosaic Idealize.ShloMosaic.TcCoe

variable {F : FTy → Type} [FloatOps F]

/-- The loaded block of orbitals. -/
abbrev loadX (a : Memref sig .tc .vmem S128x64 .f32) (h : a.IsWhole) (x : Vec F S128x64 .f32) : Vec F S128x64 .f32 :=
  View.readAt (Elt F) a.view (Rect.unit ![0, 0] S128x64.size inb_S128x64_S128x64_0_0).toLoadRect (h.unread x)
/-- The loaded selection. -/
abbrev loadO (a : Memref sig .tc .vmem S64x2048 .f32) (h : a.IsWhole) (x : Vec F S64x2048 .f32) : Vec F S64x2048 .f32 :=
  View.readAt (Elt F) a.view (Rect.unit ![0, 0] S64x2048.size inb_S64x2048_S64x2048_0_0).toLoadRect (h.unread x)

/-- Row `s` lies in the block of results. -/
theorem row_inb (s : Fin 8) : ∀ a, (![0, s.val, 0] : Fin 3 → ℕ) a + S1x1x128.size a ≤ S1x8x128.size a := by
  revert s; decide

/-- The store of sample `s`. -/
def piece (x0 x1 : Vec F S128x64 .f32) (x2 x3 : Vec F S64x2048 .f32) (s : Fin 8) : View.Piece (Elt F) S1x8x128 .f32 :=
  ⟨Rect.unit (s := S1x8x128) ![0, s.val, 0] S1x1x128.size (row_inb s), rowOut s x0 x1 x2 x3⟩

/-- The body's stores, last first, by evaluation of the printed body. -/
theorem pieces_eq (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1x8x128 .f32) (harg5 : arg5.IsWhole) (arg6 : Memref sig .tc .vmem S8x128 .f32) (harg6 : arg6.IsWhole)
    (x0 x1 : Vec F S128x64 .f32) (x2 x3 : Vec F S64x2048 .f32) :
    (kernelRun0_A c i arg1 harg1 arg2 harg2 arg3 harg3 arg4 harg4 arg5 harg5 arg6 harg6 x0 x1 x2 x3).1 =
      [7, 6, 5, 4, 3, 2, 1, 0].map (piece (loadX arg1 harg1 x0) (loadX arg2 harg2 x1) (loadO arg3 harg3 x2) (loadO arg4 harg4 x3)) := by
  sl_kernel_rfl

end Cert.Householder

end
-- ==== Proof.Reflection.lean ====
/- The determinant by reflections: sixteen columns cleared one after another, over the real numbers. -/
module

public import Mathlib.LinearAlgebra.Matrix.Block
public import Mathlib.Analysis.SpecialFunctions.Pow.Real
public import Mathlib.Tactic.Linarith
public import Mathlib.Tactic.Ring
public import Mathlib.Tactic.FieldSimp

@[expose] public section

noncomputable section

namespace Cert.Reflection

open Matrix

variable {n : ℕ}

/-- A column from row `k` on. -/
def tail (A : Matrix (Fin n) (Fin n) ℝ) (k r : Fin n) : ℝ := if k ≤ r then A r k else 0
/-- The squared norm of a column from the diagonal on. -/
def norm2 (A : Matrix (Fin n) (Fin n) ℝ) (k : Fin n) : ℝ := ∑ r, tail A k r * tail A k r
/-- The norm with the sign of the pivot. -/
def sgnNorm (A : Matrix (Fin n) (Fin n) ℝ) (k : Fin n) : ℝ :=
  if 0 ≤ A k k then √(norm2 A k) else -√(norm2 A k)
/-- The denominator of the scale. -/
def denom (A : Matrix (Fin n) (Fin n) ℝ) (k : Fin n) : ℝ := norm2 A k + sgnNorm A k * A k k
/-- The scale of the reflection. -/
def scale (A : Matrix (Fin n) (Fin n) ℝ) (k : Fin n) : ℝ := if 0 < denom A k then 1 / denom A k else 0
/-- The vector of the reflection. -/
def vec (A : Matrix (Fin n) (Fin n) ℝ) (k r : Fin n) : ℝ := if r = k then A k k + sgnNorm A k else tail A k r
/-- The later columns reflected. -/
def step (A : Matrix (Fin n) (Fin n) ℝ) (k : Fin n) : Matrix (Fin n) (Fin n) ℝ :=
  fun r j => if j ≤ k then A r j else A r j - scale A k * vec A k r * ∑ i, vec A k i * A i j
/-- The matrix whose first `k` rows and columns are those of the identity. -/
def rest (A : Matrix (Fin n) (Fin n) ℝ) (k : ℕ) : Matrix (Fin n) (Fin n) ℝ :=
  fun r j => if r.val < k ∨ j.val < k then (if r = j then 1 else 0) else A r j

theorem norm2_nonneg (A : Matrix (Fin n) (Fin n) ℝ) (k : Fin n) : 0 ≤ norm2 A k :=
  Finset.sum_nonneg fun _ _ => mul_self_nonneg _

theorem sgnNorm_mul (A : Matrix (Fin n) (Fin n) ℝ) (k : Fin n) : sgnNorm A k * sgnNorm A k = norm2 A k := by
  unfold sgnNorm
  split <;> simp [Real.mul_self_sqrt (norm2_nonneg A k)]

theorem sgnNorm_pivot (A : Matrix (Fin n) (Fin n) ℝ) (k : Fin n) : 0 ≤ sgnNorm A k * A k k := by
  unfold sgnNorm
  split
  · exact mul_nonneg (Real.sqrt_nonneg _) ‹_›
  · rename_i h
    have := Real.sqrt_nonneg (norm2 A k)
    nlinarith

/-- The vector is the tail with the signed norm put on the pivot. -/
theorem vec_eq (A : Matrix (Fin n) (Fin n) ℝ) (k r : Fin n) :
    vec A k r = tail A k r + (if r = k then sgnNorm A k else 0) := by
  unfold vec
  split
  · subst_vars; simp [tail]
  · simp

theorem vec_zero (A : Matrix (Fin n) (Fin n) ℝ) (k r : Fin n) (h : r < k) : vec A k r = 0 := by
  simp [vec_eq, tail, not_le.mpr h, h.ne]

theorem vec_tail (A : Matrix (Fin n) (Fin n) ℝ) (k : Fin n) : ∑ r, vec A k r * tail A k r = denom A k := by
  simp only [vec_eq, add_mul, Finset.sum_add_distrib, ite_mul, zero_mul, Finset.sum_ite_eq', Finset.mem_univ, if_true]
  simp [denom, norm2, tail]

theorem vec_vec (A : Matrix (Fin n) (Fin n) ℝ) (k : Fin n) : ∑ r, vec A k r * vec A k r = 2 * denom A k := by
  have h : ∀ r, vec A k r * vec A k r = vec A k r * tail A k r + vec A k r * (if r = k then sgnNorm A k else 0) :=
    fun r => by rw [← mul_add, ← vec_eq]
  simp only [h, Finset.sum_add_distrib, vec_tail, mul_ite, mul_zero, Finset.sum_ite_eq', Finset.mem_univ, if_true]
  have : vec A k k = A k k + sgnNorm A k := by simp [vec]
  rw [this, add_mul, sgnNorm_mul, denom]; ring

/-- The determinant of the identity with a product of a column and a row added. -/
theorem det_rank_one (u v : Fin n → ℝ) : (1 + Matrix.vecMulVec u v).det = 1 + ∑ i, v i * u i := by
  have h : Matrix.fromBlocks 1 0 (Matrix.of fun (_ : Unit) i => v i) 1
        * Matrix.fromBlocks 1 (-Matrix.of fun i (_ : Unit) => u i) 0 (1 + (Matrix.of fun (_ : Unit) i => v i) * Matrix.of fun i (_ : Unit) => u i)
      = Matrix.fromBlocks 1 (-Matrix.of fun i (_ : Unit) => u i) 0 1
        * Matrix.fromBlocks (1 + (Matrix.of fun i (_ : Unit) => u i) * Matrix.of fun (_ : Unit) i => v i) 0 (Matrix.of fun (_ : Unit) i => v i) 1 := by
    rw [Matrix.fromBlocks_multiply, Matrix.fromBlocks_multiply]
    simp only [Matrix.one_mul, Matrix.mul_one, Matrix.zero_mul, Matrix.mul_zero, add_zero, zero_add, Matrix.mul_neg, Matrix.neg_mul]
    congr 1
    · abel
    · abel
  have hd := congrArg Matrix.det h
  rw [Matrix.det_mul, Matrix.det_mul, Matrix.det_fromBlocks_zero₁₂, Matrix.det_fromBlocks_zero₂₁, Matrix.det_fromBlocks_zero₂₁,
    Matrix.det_fromBlocks_zero₁₂] at hd
  simp only [Matrix.det_one, one_mul, mul_one] at hd
  have hm : (Matrix.of fun i (_ : Unit) => u i) * (Matrix.of fun (_ : Unit) i => v i) = Matrix.vecMulVec u v := by
    ext i j; simp [Matrix.mul_apply, Matrix.vecMulVec_apply]
  rw [hm] at hd
  rw [← hd, Matrix.det_unique]
  simp [Matrix.mul_apply]

/-- The reflection has determinant minus one. -/
theorem det_reflection (A : Matrix (Fin n) (Fin n) ℝ) (k : Fin n) (h : 0 < denom A k) :
    (1 + Matrix.vecMulVec (fun r => -(scale A k * vec A k r)) (vec A k)).det = -1 := by
  rw [det_rank_one]
  have : ∀ i, vec A k i * -(scale A k * vec A k i) = -scale A k * (vec A k i * vec A k i) := fun i => by ring
  simp only [this, ← Finset.mul_sum]
  rw [vec_vec, scale, if_pos h]
  field_simp; norm_num

/-- The row that completes a step. -/
def lastRow (A : Matrix (Fin n) (Fin n) ℝ) (k j : Fin n) : ℝ :=
  if j < k then 0 else if j = k then -sgnNorm A k - 1 else step A k k j

theorem det_lastRow (A : Matrix (Fin n) (Fin n) ℝ) (k : Fin n) :
    (1 + Matrix.vecMulVec (Pi.single k 1) (lastRow A k)).det = -sgnNorm A k := by
  rw [det_rank_one]
  simp [Pi.single_apply, lastRow]

/-- One step in matrices. -/
theorem reflect (A : Matrix (Fin n) (Fin n) ℝ) (k : Fin n) (h : 0 < denom A k) :
    (1 + Matrix.vecMulVec (fun r => -(scale A k * vec A k r)) (vec A k)) * rest A k.val
      = rest (step A k) (k.val + 1) * (1 + Matrix.vecMulVec (Pi.single k 1) (lastRow A k)) := by
  have hs : scale A k * denom A k = 1 := by rw [scale, if_pos h, one_div, inv_mul_cancel₀ h.ne']
  ext r j
  have hl : ((1 + Matrix.vecMulVec (fun r => -(scale A k * vec A k r)) (vec A k)) * rest A k.val) r j
      = rest A k.val r j - scale A k * vec A k r * ∑ i, vec A k i * rest A k.val i j := by
    rw [Matrix.add_mul, Matrix.one_mul, Matrix.add_apply, Matrix.mul_apply]
    simp only [Matrix.vecMulVec_apply, mul_assoc, neg_mul, ← Finset.mul_sum, Finset.sum_neg_distrib]
    ring
  have hr : (rest (step A k) (k.val + 1) * (1 + Matrix.vecMulVec (Pi.single k 1) (lastRow A k))) r j
      = rest (step A k) (k.val + 1) r j + (if r = k then lastRow A k j else 0) := by
    rw [Matrix.mul_add, Matrix.mul_one, Matrix.add_apply, Matrix.mul_apply]
    simp only [Matrix.vecMulVec_apply, Pi.single_apply, ite_mul, one_mul, zero_mul, mul_ite, mul_zero,
      Finset.sum_ite_eq', Finset.mem_univ, if_true]
    congr 1
    simp [rest]
  rw [hl, hr]
  rcases lt_trichotomy j k with hj | hj | hj
  · have h1 : ∀ i, vec A k i * rest A k.val i j = 0 := fun i => by
      have hj' : j.val < k.val := hj
      by_cases e : i = j
      · subst e; rw [vec_zero A k _ hj, zero_mul]
      · simp [rest, hj', e]
    have hj' : j.val < k.val := hj
    have hj'' : j.val < k.val + 1 := by omega
    rw [Finset.sum_eq_zero fun i _ => h1 i]
    simp [rest, hj', hj'', lastRow, hj]
  · subst hj
    have h1 : ∀ i, rest A j.val i j = tail A j i := fun i => by
      by_cases e : i < j
      · have : i.val < j.val := e
        simp [rest, this, tail, not_le.mpr e, e.ne]
      · have e' : ¬ i.val < j.val := fun x => e x
        simp [rest, e', tail, not_lt.mp e]
    simp only [h1, vec_tail]
    have : scale A j * vec A j r * denom A j = vec A j r := by rw [mul_right_comm, hs, one_mul]
    rw [this, vec_eq]
    have h2 : rest (step A j) (j.val + 1) r j = if r = j then 1 else 0 := by simp [rest]
    rw [h2]
    split <;> simp [lastRow]
  · have hj' : ¬ j.val < k.val := by have : k.val < j.val := hj; omega
    have hj'' : ¬ j.val < k.val + 1 := by have : k.val < j.val := hj; omega
    have h1 : ∀ i, vec A k i * rest A k.val i j = vec A k i * A i j := fun i => by
      by_cases e : i < k
      · rw [vec_zero A k i e, zero_mul, zero_mul]
      · have e' : ¬ i.val < k.val := fun x => e x
        simp [rest, e', hj']
    simp only [h1]
    rcases lt_trichotomy r k with e | e | e
    · have e' : r.val < k.val := e
      have e'' : r.val < k.val + 1 := by omega
      simp [rest, e', e'', vec_zero A k r e, e.ne]
    · subst e
      have hne : r ≠ j := hj.ne
      simp [rest, hj', hne, lastRow, hj.not_gt, hj.ne', step, hj.not_ge]
    · have e' : ¬ r.val < k.val := by have : k.val < r.val := e; omega
      have e'' : ¬ r.val < k.val + 1 := by have : k.val < r.val := e; omega
      simp [rest, e', e'', hj', hj'', step, hj.not_ge, e.ne']

/-- One step takes the factor of its signed norm out of the determinant. -/
theorem det_rest (A : Matrix (Fin n) (Fin n) ℝ) (k : Fin n) :
    (rest A k.val).det = sgnNorm A k * (rest (step A k) (k.val + 1)).det := by
  by_cases h : 0 < denom A k
  · have := congrArg Matrix.det (reflect A k h)
    rw [Matrix.det_mul, Matrix.det_mul, det_reflection A k h, det_lastRow] at this
    linarith
  · have h0 : norm2 A k = 0 := by
      have h1 := norm2_nonneg A k
      have h2 := sgnNorm_pivot A k
      unfold denom at h
      linarith
    have ht : sgnNorm A k = 0 := by simp [sgnNorm, h0]
    rw [ht, zero_mul]
    refine Matrix.det_eq_zero_of_column_eq_zero k fun i => ?_
    have hx : ∀ r, tail A k r = 0 := fun r => by
      have := (Finset.sum_eq_zero_iff_of_nonneg (fun r _ => mul_self_nonneg (tail A k r))).mp h0 r (Finset.mem_univ r)
      simpa using this
    have := hx i
    by_cases e : i < k
    · have e' : i.val < k.val := e
      simp [rest, e', e.ne]
    · have e' : ¬ i.val < k.val := fun x => e x
      simpa [rest, e', tail, not_lt.mp e] using this

/-- The matrix before step `k`. -/
def mats (A : Matrix (Fin (n + 1)) (Fin (n + 1)) ℝ) : ℕ → Matrix (Fin (n + 1)) (Fin (n + 1)) ℝ
  | 0 => A
  | k + 1 => step (mats A k) (Fin.ofNat (n + 1) k)

/-- The determinant is the product of the signed norms. -/
theorem det_prod (A : Matrix (Fin (n + 1)) (Fin (n + 1)) ℝ) :
    A.det = ∏ k : Fin (n + 1), sgnNorm (mats A k.val) k := by
  have key : ∀ m, m ≤ n + 1 →
      A.det = (∏ k ∈ Finset.range m, sgnNorm (mats A k) (Fin.ofNat (n + 1) k)) * (rest (mats A m) m).det := by
    intro m
    induction m with
    | zero =>
      intro _
      have : rest (mats A 0) 0 = A := by ext r j; simp [rest, mats]
      rw [this]; simp
    | succ m ih =>
      intro hm
      have hv : (Fin.ofNat (n + 1) m).val = m := Nat.mod_eq_of_lt (by omega)
      have h2 := det_rest (mats A m) (Fin.ofNat (n + 1) m)
      rw [hv] at h2
      rw [ih (by omega), Finset.prod_range_succ, h2, mats, mul_assoc]
  have hend : (rest (mats A (n + 1)) (n + 1)).det = 1 := by
    have : rest (mats A (n + 1)) (n + 1) = 1 := by
      ext r j
      have : r.val < n + 1 := r.isLt
      simp only [rest, this, true_or, if_true, Matrix.one_apply]
    rw [this, Matrix.det_one]
  rw [key (n + 1) le_rfl, hend, mul_one, ← Fin.prod_univ_eq_prod_range (fun k => sgnNorm (mats A k) (Fin.ofNat (n + 1) k))]
  refine Finset.prod_congr rfl fun k _ => ?_
  congr 1
  exact Fin.ext (Nat.mod_eq_of_lt k.isLt : k.val % (n + 1) = k.val)

end Cert.Reflection

end
-- ==== Proof.Lane.lean ====
/- One lane of the kernel's determinant, read as real numbers. -/
module

public import proofs.«01_k».proof.Proof.Compact
public import proofs.«01_k».proof.Proof.Reflection
public import Idealize.ShloMosaic.Lib.Pointwise
public import Idealize.ShloMosaic.Lib.IdealHost

@[expose] public section

set_option maxRecDepth 16384

noncomputable section

namespace Cert.Householder

open Cert.KernelIdeal Cert.KernelIdeal.Gen Idealize.ShloMosaic Idealize.ShloMosaic.TcCoe Idealize.ShloMosaic.Pointwise

/-- A row of the lower half compares with the pivot as the numbers do. -/
theorem row_ge (r k : Fin 8) : IntOp.cmpi .sge (BitVec.ofNat 32 r.val) (BitVec.ofNat 32 k.val) = if k ≤ r then 1#1 else 0#1 := by
  revert r k; decide
theorem row_eq (r k : Fin 8) : IntOp.cmpi .eq (BitVec.ofNat 32 r.val) (BitVec.ofNat 32 k.val) = if r = k then 1#1 else 0#1 := by
  revert r k; decide

theorem below_at (k r : Fin 8) (l : Fin 128) (v : FVec Ideal S8x128 .f32) :
    below k.val v (ix2 r l) = if k ≤ r then v (ix2 r l) else 0 := by
  pointwise [below, rowNo, zero8]
  rw [row_ge]
  by_cases h : k ≤ r <;> simp [h, Scalar.select]
theorem setRow_at (k r : Fin 8) (l : Fin 128) (x : FVec Ideal S1x128 .f32) (v : FVec Ideal S8x128 .f32) :
    setRow k.val x v (ix2 r l) = if r = k then x (ix2 0 l) else v (ix2 r l) := by
  pointwise [setRow, rowNo, spread]
  rw [row_eq]
  by_cases h : r = k <;> simp [h, Scalar.select]
theorem colSum_at (l : Fin 128) (v : FVec Ideal S8x128 .f32) :
    colSum v (ix2 0 l) = ∑ r : Fin 8, v (ix2 r l) := by
  pointwise [colSum]
theorem spread_at (r : Fin 8) (l : Fin 128) (v : FVec Ideal S1x128 .f32) :
    spread v (ix2 r l) = v (ix2 0 l) := by
  pointwise [spread]
theorem rowOf_at (k : Fin 8) (l : Fin 128) (v : FVec Ideal S8x128 .f32) :
    rowOf k v (ix2 0 l) = v (ix2 k l) := by
  pointwise [rowOf]
theorem signed_at (l : Fin 128) (n x : FVec Ideal S1x128 .f32) (N X : ℝ) (hN : 0 ≤ N) (hn : n (ix2 0 l) = (N : EReal)) (hx : x (ix2 0 l) = (X : EReal)) :
    signed n x (ix2 0 l) = ((if 0 ≤ X then √N else -√N : ℝ) : EReal) := by
  pointwise [signed, zero1]
  have hs : Ideal.sqrt (N : EReal) = ((√N : ℝ) : EReal) := by rw [Ideal.sqrt_coe, if_neg (not_lt.mpr hN)]
  rw [hn, hx, hs]
  by_cases h : 0 ≤ X
  · rw [if_pos h, if_pos (EReal.coe_nonneg.mpr h)]
  · rw [if_neg h, if_neg (fun c => h (EReal.coe_nonneg.mp c)), zero_sub, EReal.coe_neg]
theorem scaleOf_at (l : Fin 128) (n x : FVec Ideal S1x128 .f32) (N X T : ℝ) (hn : n (ix2 0 l) = (N : EReal)) (hx : x (ix2 0 l) = (X : EReal))
    (ht : signed n x (ix2 0 l) = (T : EReal)) :
    scaleOf n x (ix2 0 l) = ((if 0 < N + T * X then 1 / (N + T * X) else 0 : ℝ) : EReal) := by
  pointwise [scaleOf, zero1, one1]
  rw [hn, hx, ht, ← EReal.coe_mul, ← EReal.coe_add]
  by_cases h : 0 < N + T * X
  · rw [if_pos h, if_pos (EReal.coe_pos.mpr h), Ideal.div_coe h.ne', one_mul]
  · rw [if_neg h, if_neg (fun c => h (EReal.coe_pos.mp c)), EReal.coe_zero]
theorem half_at (h : Fin 2) (j : Fin 16) (r : Fin 8) (l : Fin 128) (x : FVec Ideal S16x2048 .f32) :
    half h j x (ix2 r l) = x (ix2 (⟨8 * h.val + r.val, by omega⟩) (⟨128 * j.val + l.val, by omega⟩)) := by
  pointwise [half]
theorem sample_at (s : Fin 8) (r : Fin 16) (q : Fin 2048) (x : FVec Ideal S128x2048 .f32) :
    sample s x (ix2 r q) = x (ix2 (⟨16 * s.val + r.val, by omega⟩) q) := by
  pointwise [sample]
theorem gathered_at (p : Fin 128) (q : Fin 2048) (x : Vec Ideal S128x64 .f32) (o : Vec Ideal S64x2048 .f32) :
    gathered x o (ix2 p q) = ∑ k : Fin 64, (x (ix2 p k) : EReal) * (o (ix2 k q) : EReal) := by
  pointwise [gathered]
theorem rowOut_at (s : Fin 8) (l : Fin 128) (x0 x1 : Vec Ideal S128x64 .f32) (x2 x3 : Vec Ideal S64x2048 .f32) :
    rowOut s x0 x1 x2 x3 (ix3 0 0 l) = (dets (colsOf (sample s (gathered x0 x2))) (ix2 0 l) : EReal) * (dets (colsOf (sample s (gathered x1 x3))) (ix2 0 l) : EReal) := by
  pointwise [rowOut]

open Cert.Reflection (tail norm2 sgnNorm denom scale vec step mats)

/-- The columns hold, in lane `l`, the entries of a real matrix. -/
def Rep (s : Cols Ideal) (l : Fin 128) (A : Matrix (Fin 16) (Fin 16) ℝ) : Prop :=
  ∀ (r : Fin 8) (j : Fin 16), s.1 j.val (ix2 r l) = (A (Fin.castAdd 8 r) j : EReal) ∧ s.2 j.val (ix2 r l) = (A (Fin.natAdd 8 r) j : EReal)

/-- A sum over sixteen rows is that over the upper half and that over the lower half. -/
theorem sum_halves {M : Type} [AddCommMonoid M] (f : Fin 16 → M) :
    ∑ i, f i = ∑ r : Fin 8, f (Fin.castAdd 8 r) + ∑ r : Fin 8, f (Fin.natAdd 8 r) := Fin.sum_univ_add (a := 8) (b := 8) f

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem upper_le (k r : Fin 8) : (Fin.castAdd 8 k : Fin 16) ≤ Fin.castAdd 8 r ↔ k ≤ r := Iff.rfl
theorem lower_le (k r : Fin 8) : (Fin.natAdd 8 k : Fin 16) ≤ Fin.natAdd 8 r ↔ k ≤ r := by
  revert k r; decide
theorem upper_lower (k r : Fin 8) : (Fin.castAdd 8 k : Fin 16) ≤ Fin.natAdd 8 r := by
  revert k r; decide
theorem not_lower_upper (k r : Fin 8) : ¬ (Fin.natAdd 8 k : Fin 16) ≤ Fin.castAdd 8 r := by
  revert k r; decide
theorem upper_ne_lower (k r : Fin 8) : (Fin.castAdd 8 k : Fin 16) ≠ Fin.natAdd 8 r := by
  revert k r; decide

theorem belowT (s : Cols Ideal) (l : Fin 128) (A : Matrix (Fin 16) (Fin 16) ℝ) (h : Rep s l A) (k r : Fin 8) :
    below k.val (s.1 k.val) (ix2 r l) = (tail A (Fin.castAdd 8 k) (Fin.castAdd 8 r) : EReal) := by
  have := (h r (Fin.castAdd 8 k)).1
  rw [below_at, tail]
  by_cases e : k ≤ r
  · rw [if_pos e, if_pos ((upper_le k r).mpr e)]; exact this
  · rw [if_neg e, if_neg (fun c => e ((upper_le k r).mp c)), EReal.coe_zero]
theorem belowB (s : Cols Ideal) (l : Fin 128) (A : Matrix (Fin 16) (Fin 16) ℝ) (h : Rep s l A) (k r : Fin 8) :
    below k.val (s.2 (k.val + 8)) (ix2 r l) = (tail A (Fin.natAdd 8 k) (Fin.natAdd 8 r) : EReal) := by
  have := (h r (Fin.natAdd 8 k)).2
  rw [below_at, tail]
  by_cases e : k ≤ r
  · rw [if_pos e, if_pos ((lower_le k r).mpr e), ← this, Fin.val_natAdd, Nat.add_comm]
  · rw [if_neg e, if_neg (fun c => e ((lower_le k r).mp c)), EReal.coe_zero]
theorem botT (s : Cols Ideal) (l : Fin 128) (A : Matrix (Fin 16) (Fin 16) ℝ) (h : Rep s l A) (k r : Fin 8) :
    s.2 k.val (ix2 r l) = (tail A (Fin.castAdd 8 k) (Fin.natAdd 8 r) : EReal) := by
  rw [tail, if_pos (upper_lower k r)]; exact (h r (Fin.castAdd 8 k)).2

theorem normT_at (s : Cols Ideal) (l : Fin 128) (A : Matrix (Fin 16) (Fin 16) ℝ) (h : Rep s l A) (k : Fin 8) :
    normT k.val s (ix2 0 l) = (norm2 A (Fin.castAdd 8 k) : EReal) := by
  rw [normT, colSum_at, norm2, sum_halves, EReal.coe_add, coe_sum, coe_sum, ← Finset.sum_add_distrib]
  refine Finset.sum_congr rfl fun r _ => ?_
  rw [EReal.coe_mul, EReal.coe_mul, ← belowT s l A h, ← botT s l A h]
  rfl
theorem normB_at (s : Cols Ideal) (l : Fin 128) (A : Matrix (Fin 16) (Fin 16) ℝ) (h : Rep s l A) (k : Fin 8) :
    normB k.val s (ix2 0 l) = (norm2 A (Fin.natAdd 8 k) : EReal) := by
  have hz : ∀ r : Fin 8, tail A (Fin.natAdd 8 k) (Fin.castAdd 8 r) = 0 := fun r => if_neg (not_lower_upper k r)
  rw [normB, colSum_at, norm2, sum_halves (fun i => tail A (Fin.natAdd 8 k) i * tail A (Fin.natAdd 8 k) i)]
  simp only [hz, zero_mul, Finset.sum_const_zero, zero_add, coe_sum]
  refine Finset.sum_congr rfl fun r _ => ?_
  rw [EReal.coe_mul, ← belowB s l A h]
  rfl

theorem pivotT (s : Cols Ideal) (l : Fin 128) (A : Matrix (Fin 16) (Fin 16) ℝ) (h : Rep s l A) (k : Fin 8) :
    rowOf k (s.1 k.val) (ix2 0 l) = (A (Fin.castAdd 8 k) (Fin.castAdd 8 k) : EReal) := by
  rw [rowOf_at]; exact (h k (Fin.castAdd 8 k)).1
theorem pivotB (s : Cols Ideal) (l : Fin 128) (A : Matrix (Fin 16) (Fin 16) ℝ) (h : Rep s l A) (k : Fin 8) :
    rowOf k (s.2 (k.val + 8)) (ix2 0 l) = (A (Fin.natAdd 8 k) (Fin.natAdd 8 k) : EReal) := by
  rw [rowOf_at, ← (h k (Fin.natAdd 8 k)).2, Fin.val_natAdd, Nat.add_comm]

theorem signT (s : Cols Ideal) (l : Fin 128) (A : Matrix (Fin 16) (Fin 16) ℝ) (h : Rep s l A) (k : Fin 8) :
    signed (normT k.val s) (rowOf k (s.1 k.val)) (ix2 0 l) = (sgnNorm A (Fin.castAdd 8 k) : EReal) :=
  signed_at l _ _ _ _ (Reflection.norm2_nonneg _ _) (normT_at s l A h k) (pivotT s l A h k)
theorem signB (s : Cols Ideal) (l : Fin 128) (A : Matrix (Fin 16) (Fin 16) ℝ) (h : Rep s l A) (k : Fin 8) :
    signed (normB k.val s) (rowOf k (s.2 (k.val + 8))) (ix2 0 l) = (sgnNorm A (Fin.natAdd 8 k) : EReal) :=
  signed_at l _ _ _ _ (Reflection.norm2_nonneg _ _) (normB_at s l A h k) (pivotB s l A h k)

theorem scaleT (s : Cols Ideal) (l : Fin 128) (A : Matrix (Fin 16) (Fin 16) ℝ) (h : Rep s l A) (k : Fin 8) :
    scaleOf (normT k.val s) (rowOf k (s.1 k.val)) (ix2 0 l) = (scale A (Fin.castAdd 8 k) : EReal) :=
  scaleOf_at l _ _ _ _ _ (normT_at s l A h k) (pivotT s l A h k) (signT s l A h k)
theorem scaleB (s : Cols Ideal) (l : Fin 128) (A : Matrix (Fin 16) (Fin 16) ℝ) (h : Rep s l A) (k : Fin 8) :
    scaleOf (normB k.val s) (rowOf k (s.2 (k.val + 8))) (ix2 0 l) = (scale A (Fin.natAdd 8 k) : EReal) :=
  scaleOf_at l _ _ _ _ _ (normB_at s l A h k) (pivotB s l A h k) (signB s l A h k)

theorem vecT_at (s : Cols Ideal) (l : Fin 128) (A : Matrix (Fin 16) (Fin 16) ℝ) (h : Rep s l A) (k r : Fin 8) :
    vecT k s (ix2 r l) = (vec A (Fin.castAdd 8 k) (Fin.castAdd 8 r) : EReal) := by
  rw [vecT, setRow_at, vec]
  by_cases e : r = k
  · subst e
    rw [if_pos rfl, if_pos rfl, EReal.coe_add, ← pivotT s l A h, ← signT s l A h]; rfl
  · rw [if_neg e, if_neg (fun c => e (Fin.castAdd_injective _ _ c)), belowT s l A h]
theorem vecB_at (s : Cols Ideal) (l : Fin 128) (A : Matrix (Fin 16) (Fin 16) ℝ) (h : Rep s l A) (k r : Fin 8) :
    vecB k s (ix2 r l) = (vec A (Fin.natAdd 8 k) (Fin.natAdd 8 r) : EReal) := by
  rw [vecB, setRow_at, vec]
  by_cases e : r = k
  · subst e
    rw [if_pos rfl, if_pos rfl, EReal.coe_add, ← pivotB s l A h, ← signB s l A h]; rfl
  · rw [if_neg e, if_neg (fun c => e (Fin.natAdd_injective _ _ c)), belowB s l A h]
theorem vec_botT (s : Cols Ideal) (l : Fin 128) (A : Matrix (Fin 16) (Fin 16) ℝ) (h : Rep s l A) (k r : Fin 8) :
    s.2 k.val (ix2 r l) = (vec A (Fin.castAdd 8 k) (Fin.natAdd 8 r) : EReal) := by
  rw [vec, if_neg (upper_ne_lower k r).symm, botT s l A h]

/-- A step with a pivot in the upper rows is the reflection's step. -/
theorem stepT_rep (s : Cols Ideal) (l : Fin 128) (A : Matrix (Fin 16) (Fin 16) ℝ) (h : Rep s l A) (k : Fin 8) :
    Rep (stepT k s) l (step A (Fin.castAdd 8 k)) := by
  intro r j
  have hw : colSum (addf (mulf (vecT k s) (s.1 j.val)) (mulf (s.2 k.val) (s.2 j.val))) (ix2 0 l)
      = ((∑ i, vec A (Fin.castAdd 8 k) i * A i j : ℝ) : EReal) := by
    rw [colSum_at, sum_halves, EReal.coe_add, coe_sum, coe_sum, ← Finset.sum_add_distrib]
    refine Finset.sum_congr rfl fun i _ => ?_
    rw [EReal.coe_mul, EReal.coe_mul, ← vecT_at s l A h, ← vec_botT s l A h, ← (h i j).1, ← (h i j).2]
    rfl
  have hj : j.val ≤ k.val ↔ j ≤ Fin.castAdd 8 k := Iff.rfl
  simp only [stepT, step, hj]
  by_cases e : j ≤ Fin.castAdd 8 k
  · simp only [if_pos e]; exact h r j
  · simp only [if_neg e, EReal.coe_sub, EReal.coe_mul, ← hw, ← scaleT s l A h, ← (h r j).1, ← (h r j).2, ← vecT_at s l A h, ← vec_botT s l A h]
    constructor
    · rw [← spread_at r l (colSum _), ← spread_at r l (scaleOf _ _)]; rfl
    · rw [← spread_at r l (colSum _), ← spread_at r l (scaleOf _ _)]; rfl
/-- The same for a pivot in the lower rows. -/
theorem stepB_rep (s : Cols Ideal) (l : Fin 128) (A : Matrix (Fin 16) (Fin 16) ℝ) (h : Rep s l A) (k : Fin 8) :
    Rep (stepB k s) l (step A (Fin.natAdd 8 k)) := by
  intro r j
  have hz : ∀ r : Fin 8, vec A (Fin.natAdd 8 k) (Fin.castAdd 8 r) = 0 :=
    fun r => Reflection.vec_zero _ _ _ (not_le.mp (not_lower_upper k r))
  have hw : colSum (mulf (vecB k s) (s.2 j.val)) (ix2 0 l)
      = ((∑ i, vec A (Fin.natAdd 8 k) i * A i j : ℝ) : EReal) := by
    rw [colSum_at, sum_halves (fun i => vec A (Fin.natAdd 8 k) i * A i j)]
    simp only [hz, zero_mul, Finset.sum_const_zero, zero_add, coe_sum]
    refine Finset.sum_congr rfl fun i _ => ?_
    rw [EReal.coe_mul, ← vecB_at s l A h, ← (h i j).2]
    rfl
  have hj : j.val ≤ k.val + 8 ↔ j ≤ Fin.natAdd 8 k := by rw [Fin.le_def, Fin.val_natAdd, Nat.add_comm]
  simp only [stepB, step, hj, hz, mul_zero, zero_mul, sub_zero, ite_self]
  refine ⟨(h r j).1, ?_⟩
  by_cases e : j ≤ Fin.natAdd 8 k
  · simp only [if_pos e]; exact (h r j).2
  · simp only [if_neg e, EReal.coe_sub, EReal.coe_mul, ← hw, ← scaleB s l A h, ← (h r j).2, ← vecB_at s l A h]
    rw [← spread_at r l (colSum _), ← spread_at r l (scaleOf _ _)]; rfl

theorem colsT_rep (s : Cols Ideal) (l : Fin 128) (A : Matrix (Fin 16) (Fin 16) ℝ) (h : Rep s l A) :
    ∀ k, k ≤ 8 → Rep (colsT s k) l (mats A k)
  | 0, _ => h
  | k + 1, hk => by
    have := stepT_rep _ l _ (colsT_rep s l A h k (by omega)) (Fin.ofNat 8 k)
    have e : Fin.castAdd 8 (Fin.ofNat 8 k) = (Fin.ofNat (15 + 1) k : Fin 16) := Fin.ext (by simp [Fin.ofNat]; omega)
    rw [e] at this
    exact this
theorem colsB_rep (s : Cols Ideal) (l : Fin 128) (A : Matrix (Fin 16) (Fin 16) ℝ) (h : Rep s l A) :
    ∀ k, k ≤ 8 → Rep (colsB s k) l (mats A (8 + k))
  | 0, _ => colsT_rep s l A h 8 le_rfl
  | k + 1, hk => by
    have := stepB_rep _ l _ (colsB_rep s l A h k (by omega)) (Fin.ofNat 8 k)
    have e : Fin.natAdd 8 (Fin.ofNat 8 k) = (Fin.ofNat (15 + 1) (8 + k) : Fin 16) := Fin.ext (by simp [Fin.ofNat]; omega)
    rw [e] at this
    exact this

theorem neg_at (l : Fin 128) (v : FVec Ideal S1x128 .f32) (x : ℝ) (h : v (ix2 0 l) = (x : EReal)) :
    subf zero1 v (ix2 0 l) = ((-x : ℝ) : EReal) := by
  pointwise [zero1]
  rw [h, zero_sub, EReal.coe_neg]
theorem mul_at (l : Fin 128) (v w : FVec Ideal S1x128 .f32) (x y : ℝ) (h : v (ix2 0 l) = (x : EReal)) (h' : w (ix2 0 l) = (y : EReal)) :
    mulf v w (ix2 0 l) = ((x * y : ℝ) : EReal) := by
  pointwise
  rw [h, h', EReal.coe_mul]

/-- The factor of step `k`. -/
def fac (A : Matrix (Fin 16) (Fin 16) ℝ) (k : ℕ) : ℝ := -sgnNorm (mats A k) (Fin.ofNat 16 k)

theorem facT_at (s : Cols Ideal) (l : Fin 128) (A : Matrix (Fin 16) (Fin 16) ℝ) (h : Rep s l A) (k : ℕ) (hk : k < 8) :
    facT (Fin.ofNat 8 k) (colsT s k) (ix2 0 l) = (fac A k : EReal) := by
  have := neg_at l _ _ (signT _ l _ (colsT_rep s l A h k hk.le) (Fin.ofNat 8 k))
  have e : Fin.castAdd 8 (Fin.ofNat 8 k) = (Fin.ofNat 16 k : Fin 16) := Fin.ext (by simp [Fin.ofNat]; omega)
  rw [e] at this
  exact this
theorem facB_at (s : Cols Ideal) (l : Fin 128) (A : Matrix (Fin 16) (Fin 16) ℝ) (h : Rep s l A) (k : ℕ) (hk : k < 8) :
    facB (Fin.ofNat 8 k) (colsB s k) (ix2 0 l) = (fac A (8 + k) : EReal) := by
  have := neg_at l _ _ (signB _ l _ (colsB_rep s l A h k hk.le) (Fin.ofNat 8 k))
  have e : Fin.natAdd 8 (Fin.ofNat 8 k) = (Fin.ofNat 16 (8 + k) : Fin 16) := Fin.ext (by simp [Fin.ofNat]; omega)
  rw [e] at this
  exact this

theorem prodT_at (s : Cols Ideal) (l : Fin 128) (A : Matrix (Fin 16) (Fin 16) ℝ) (h : Rep s l A) :
    ∀ k, k < 8 → prodT s k (ix2 0 l) = ((∏ i ∈ Finset.range (k + 1), fac A i : ℝ) : EReal)
  | 0, _ => by
    rw [zero_add, Finset.prod_range_one]
    exact facT_at s l A h 0 (by omega)
  | k + 1, hk => by
    rw [Finset.prod_range_succ]
    exact mul_at l _ _ _ _ (prodT_at s l A h k (by omega)) (facT_at s l A h (k + 1) hk)
theorem prodB_at (s : Cols Ideal) (l : Fin 128) (A : Matrix (Fin 16) (Fin 16) ℝ) (h : Rep s l A) :
    ∀ k, k ≤ 8 → prodB s k (ix2 0 l) = ((∏ i ∈ Finset.range (8 + k), fac A i : ℝ) : EReal)
  | 0, _ => prodT_at s l A h 7 (by omega)
  | k + 1, hk => by
    rw [← Nat.add_assoc, Finset.prod_range_succ]
    exact mul_at l _ _ _ _ (prodB_at s l A h k (by omega)) (facB_at s l A h k hk)

/-- The kernel's loop computes the determinant of the matrix in each lane. -/
theorem dets_at (s : Cols Ideal) (l : Fin 128) (A : Matrix (Fin 16) (Fin 16) ℝ) (h : Rep s l A) :
    dets s (ix2 0 l) = (A.det : EReal) := by
  rw [dets, prodB_at s l A h 8 le_rfl, Reflection.det_prod (n := 15) A, ← Fin.prod_univ_eq_prod_range (fac A) 16]
  congr 1
  have e : ∀ k : Fin 16, fac A k.val = -1 * sgnNorm (mats A k.val) k := fun k => by
    have : (Fin.ofNat 16 k.val : Fin 16) = k := Fin.ext (Nat.mod_eq_of_lt k.isLt)
    rw [fac, this]; ring
  rw [Finset.prod_congr rfl fun k _ => e k, Finset.prod_mul_distrib, Finset.prod_const, Finset.card_univ, Fintype.card_fin]
  norm_num

end Cert.Householder

end
-- ==== Proof.HostDet.lean ====
/- The reference's determinant, written once as a recurrence over the printed host operations. -/
module

public import proofs.«01_k».proof.Proof.Gen.ReferenceIdeal.Run
public import Idealize.ShloMosaic.Lib.Tactic

@[expose] public section

set_option maxRecDepth 16384

noncomputable section

namespace Cert.HostDet

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]

/-- The identity matrix. -/
def eye : FVec F S16x16 .f32 :=
  uitofp .f32 (cmpi .eq (addi (iotaInDim S16x16 32 0) (broadcastInDim S16x16 ![] bcast_S_S16x16 (constantI S_ 32 0#32))) (iotaInDim S16x16 32 1))
/-- The identity matrix for every sample and configuration. -/
def eyes : FVec F S2048x128x16x16 .f32 :=
  broadcastInDim S2048x128x16x16 ![0, 1, 2, 3] bcast_S1x1x16x16_S2048x128x16x16_0_1_2_3 (broadcastInDim S1x1x16x16 ![2, 3] bcast_S16x16_S1x1x16x16_2_3 eye)
/-- Minus the trace of every matrix. -/
def negTrace (m : FVec F S2048x128x16x16 .f32) : FVec F S2048x128x1x1 .f32 :=
  Host.negf (broadcastInDim S2048x128x1x1 ![0, 1] bcast_S2048x128_S2048x128x1x1_0_1
    (Host.reduceAdd (mulf m eyes) (constant S_ .f32 0x00000000#32) reducesTo_S2048x128x16x16_S2048x128_d2_3 h_S_))
/-- The scalar of a step: minus the trace over the step's number. -/
def scalarOf (m : FVec F S2048x128x16x16 .f32) (w : BitVec 32) : FVec F S2048x128x1x1 .f32 :=
  Host.divf (negTrace m) (broadcastInDim S2048x128x1x1 ![] bcast_S_S2048x128x1x1 (constant S_ .f32 w))
/-- The matrix of the next step. -/
def nextOf (a m : FVec F S2048x128x16x16 .f32) (c : FVec F S2048x128x1x1 .f32) : FVec F S2048x128x16x16 .f32 :=
  Host.dotGeneral dot_S2048x128x16x16_S2048x128x16x16_S2048x128x16x16_3_2_2_3_01_01 (some .fp32) a
    (addf m (mulf (broadcastInDim S2048x128x16x16 ![0, 1, 2, 3] bcast_S2048x128x1x1_S2048x128x16x16_0_1_2_3 c) eyes))
/-- The numbers two to sixteen. -/
def numbers : List (BitVec 32) :=
  [0x40000000#32, 0x40400000#32, 0x40800000#32, 0x40A00000#32, 0x40C00000#32, 0x40E00000#32, 0x41000000#32, 0x41100000#32,
   0x41200000#32, 0x41300000#32, 0x41400000#32, 0x41500000#32, 0x41600000#32, 0x41700000#32, 0x41800000#32]
/-- The recurrence. -/
def recur (a : FVec F S2048x128x16x16 .f32) : ℕ → FVec F S2048x128x16x16 .f32 × FVec F S2048x128x1x1 .f32
  | 0 => (a, negTrace a)
  | k + 1 => (nextOf a (recur a k).1 (recur a k).2, scalarOf (nextOf a (recur a k).1 (recur a k).2) (numbers.getD k 0#32))
/-- The determinants. -/
def hostDet (a : FVec F S2048x128x16x16 .f32) : FVec F S2048x128 .f32 :=
  shapeCast S2048x128 (recur a 15).2 shapeCasts_S2048x128x1x1_S2048x128
/-- The result. -/
def hostOut (a b : FVec F S2048x128x16x16 .f32) : FVec F S256x8x128 .f32 :=
  shapeCast S256x8x128 (mulf (hostDet a) (hostDet b)) shapeCasts_S2048x128_S256x8x128
/-- The wrapped indices. -/
def wrap (i : IVec S128x16 32) : IVec S128x16x1 32 :=
  broadcastInDim S128x16x1 ![0, 1] bcast_S128x16_S128x16x1_0_1 (select (cmpi .slt i (broadcastInDim S128x16 ![] bcast_S_S128x16 (constantI S_ 32 0#32))) (addi i (broadcastInDim S128x16 ![] bcast_S_S128x16 (constantI S_ 32 64#32))) i)
/-- Where an index lies in the table. -/
def inside (i : IVec S128x16 32) : IVec S128x16 1 :=
  Host.reduce IntOp.andi (andi (cmpi .sge (wrap i) (broadcastInDim S128x16x1 ![] bcast_S_S128x16x1 (constantI S_ 32 0#32))) (cmpi .sle (wrap i) (broadcastInDim S128x16x1 ![0, 1, 2] bcast_S1x1x1_S128x16x1_0_1_2 (broadcastInDim S1x1x1 ![2] bcast_S1_S1x1x1_2 (constantI S1 32 63#32))))) (constantI S_ 1 1#1) reducesTo_S128x16x1_S128x16_d2 h_S_
/-- The matrices of the chosen orbitals. -/
def chosen (x : FVec F S2048x16x64 .f32) (i : IVec S128x16 32) : FVec F S2048x128x16x16 .f32 :=
  transpose S2048x128x16x16 [0, 2, 1, 3] (select (broadcastInDim S2048x16x128x16 ![2, 3] bcast_S128x16_S2048x16x128x16_2_3 (inside i)) (Host.gather gather_S2048x16x64_S128x16x1_S2048x16x128x16_01_2_n_n_2_2_2048161 x (wrap i)) (broadcastInDim S2048x16x128x16 ![] bcast_S_S2048x16x128x16 (constant S_ .f32 0x7FC00000#32))) transposes_S2048x16x128x16_S2048x128x16x16_0_2_1_3
/-- The upper half of the orbitals. -/
def upper (x : FVec F S2048x32x64 .f32) : FVec F S2048x16x64 .f32 := extractStridedSlice S2048x16x64 ![0, 0, 0] x slices_S2048x32x64_S2048x16x64_0_0_0
/-- The lower half of the orbitals. -/
def lower (x : FVec F S2048x32x64 .f32) : FVec F S2048x16x64 .f32 := extractStridedSlice S2048x16x64 ![0, 16, 0] x slices_S2048x32x64_S2048x16x64_0_16_0
/-- The reference. -/
def refOut (x : FVec F S2048x32x64 .f32) (u d : IVec S128x16 32) : FVec F S256x8x128 .f32 :=
  hostOut (chosen (upper x) u) (chosen (lower x) d)

/-- The reference's run ends with the recurrence's result. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v453) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by sl_kernel_rfl), (h c).2⟩) (Value.run m ρ)

end Cert.HostDet

end
-- ==== Proof.Characteristic.lean ====
/- The determinant by the coefficients of the characteristic polynomial: the recurrence of Faddeev and LeVerrier. -/
module

public import Mathlib.LinearAlgebra.Matrix.Polynomial
public import Mathlib.LinearAlgebra.Matrix.Adjugate
public import Mathlib.LinearAlgebra.Matrix.Trace
public import Mathlib.Data.Real.Basic
public import Mathlib.Tactic.Linarith
public import Mathlib.Tactic.Ring
public import Mathlib.Tactic.FieldSimp

@[expose] public section

noncomputable section

namespace Cert.Characteristic

open Matrix Polynomial

variable {n : ℕ}

/-- The recurrence's matrix and scalar after `k + 1` steps. -/
def fl (A : Matrix (Fin n) (Fin n) ℝ) : ℕ → Matrix (Fin n) (Fin n) ℝ × ℝ
  | 0 => (A, -A.trace)
  | k + 1 =>
    (A * ((fl A k).1 + (fl A k).2 • (1 : Matrix (Fin n) (Fin n) ℝ)),
      -(A * ((fl A k).1 + (fl A k).2 • (1 : Matrix (Fin n) (Fin n) ℝ))).trace / ((k : ℝ) + 2))

/-- The characteristic matrix. -/
def charM (A : Matrix (Fin n) (Fin n) ℝ) : Matrix (Fin n) (Fin n) ℝ[X] :=
  (X : ℝ[X]) • (1 : Matrix (Fin n) (Fin n) ℝ).map C + (-A).map C

/-- A polynomial with every coefficient multiplied by its degree. -/
def euler (p : ℝ[X]) : ℝ[X] := p.sum fun j a => monomial j ((j : ℝ) * a)

theorem euler_coeff (p : ℝ[X]) (j : ℕ) : (euler p).coeff j = j * p.coeff j := by
  simp only [euler, Polynomial.sum_def, finset_sum_coeff, coeff_monomial, Finset.sum_ite_eq', mem_support_iff]
  split
  · rfl
  · rename_i h
    simp only [not_not] at h
    simp [h]

theorem euler_mul (p q : ℝ[X]) : euler (p * q) = euler p * q + p * euler q := by
  ext j
  simp only [euler_coeff, coeff_add, coeff_mul, Finset.mul_sum, ← Finset.sum_add_distrib]
  refine Finset.sum_congr rfl fun x hx => ?_
  have : (j : ℝ) = x.1 + x.2 := by rw [← Finset.mem_antidiagonal.mp hx]; push_cast; rfl
  rw [this]; ring

theorem euler_add (p q : ℝ[X]) : euler (p + q) = euler p + euler q := by
  ext j; simp only [euler_coeff, coeff_add]; ring

theorem euler_const (a : ℝ) : euler (C a) = 0 := by
  ext j
  rw [euler_coeff, coeff_C]
  split <;> simp_all

theorem euler_X : euler (X : ℝ[X]) = X := by
  ext j
  rw [euler_coeff, coeff_X]
  split
  · subst_vars; simp
  · simp

theorem euler_sum {ι : Type} (s : Finset ι) (f : ι → ℝ[X]) : euler (∑ i ∈ s, f i) = ∑ i ∈ s, euler (f i) := by
  ext j; simp only [euler_coeff, finset_sum_coeff, Finset.mul_sum]

theorem euler_prod {ι : Type} [DecidableEq ι] (s : Finset ι) (f : ι → ℝ[X]) :
    euler (∏ i ∈ s, f i) = ∑ i ∈ s, ∏ b ∈ s, (if b = i then euler (f b) else f b) := by
  induction s using Finset.induction_on with
  | empty => simpa using euler_const 1
  | insert a s ha ih =>
    rw [Finset.prod_insert ha, euler_mul, ih, Finset.sum_insert ha, Finset.prod_insert ha, if_pos rfl]
    congr 1
    · congr 1
      refine Finset.prod_congr rfl fun b hb => ?_
      rw [if_neg]
      rintro rfl; exact ha hb
    · rw [Finset.mul_sum]
      refine Finset.sum_congr rfl fun i hi => ?_
      rw [Finset.prod_insert ha, if_neg]
      rintro rfl; exact ha hi

/-- The operator on a determinant acts on one row after another. -/
theorem euler_det (M : Matrix (Fin n) (Fin n) ℝ[X]) :
    euler M.det = ∑ i, (M.updateRow i (fun j => euler (M i j))).det := by
  have h : ∀ N : Matrix (Fin n) (Fin n) ℝ[X], N.det = ∑ σ : Equiv.Perm (Fin n), C ((Equiv.Perm.sign σ : ℤ) : ℝ) * ∏ i, N i (σ i) :=
    fun N => by
      rw [← Matrix.det_transpose, Matrix.det_apply']
      refine Finset.sum_congr rfl fun σ _ => ?_
      congr 1
  simp only [h]
  rw [euler_sum, Finset.sum_comm]
  refine Finset.sum_congr rfl fun σ _ => ?_
  rw [euler_mul, euler_const, zero_mul, zero_add, euler_prod, Finset.mul_sum]
  refine Finset.sum_congr rfl fun i _ => ?_
  congr 1
  refine Finset.prod_congr rfl fun b _ => ?_
  by_cases e : b = i
  · subst e; simp
  · simp [e]

/-- The characteristic polynomial. -/
def charP (A : Matrix (Fin n) (Fin n) ℝ) : ℝ[X] := (charM A).det

/-- The trace of the adjugate, times the variable, is the operator's value at the characteristic polynomial. -/
theorem euler_charP (A : Matrix (Fin n) (Fin n) ℝ) : euler (charP A) = X * (charM A).adjugate.trace := by
  rw [charP, euler_det, Matrix.trace, Finset.mul_sum]
  refine Finset.sum_congr rfl fun i _ => ?_
  rw [Matrix.diag_apply, Matrix.adjugate_apply, ← Matrix.det_updateRow_smul]
  congr 2
  funext j
  have : charM A i j = X * C ((1 : Matrix (Fin n) (Fin n) ℝ) i j) + C (-A i j) := by
    rw [charM, Matrix.add_apply, Matrix.smul_apply, Matrix.map_apply, Matrix.map_apply, Matrix.neg_apply, smul_eq_mul]
  rw [this, euler_add, euler_mul, euler_const, euler_const, euler_X]
  by_cases e : i = j
  · subst e; simp [mul_comm]
  · simp [e, Pi.single_apply, Ne.symm e]

/-- The coefficients of the adjugate of the characteristic matrix. -/
def adjC (A : Matrix (Fin n) (Fin n) ℝ) (j : ℕ) : Matrix (Fin n) (Fin n) ℝ :=
  fun a b => ((charM A).adjugate a b).coeff j

/-- The adjugate's coefficients obey the recurrence. -/
theorem adjC_succ (A : Matrix (Fin n) (Fin n) ℝ) (j : ℕ) :
    adjC A j = A * adjC A (j + 1) + (charP A).coeff (j + 1) • (1 : Matrix (Fin n) (Fin n) ℝ) := by
  have h := Matrix.mul_adjugate (charM A)
  ext a b
  have hl : (charM A * (charM A).adjugate) a b
      = X * (charM A).adjugate a b - ∑ i, C (A a i) * (charM A).adjugate i b := by
    rw [Matrix.mul_apply]
    have : ∀ i, charM A a i * (charM A).adjugate i b
        = (if a = i then X * (charM A).adjugate i b else 0) - C (A a i) * (charM A).adjugate i b := fun i => by
      by_cases e : a = i
      · subst e; simp [charM]; ring
      · simp [charM, e]
    simp only [this, Finset.sum_sub_distrib, Finset.sum_ite_eq, Finset.mem_univ, if_true]
  have hr : (((charM A).det • (1 : Matrix (Fin n) (Fin n) ℝ[X])) a b).coeff (j + 1)
      = (charP A).coeff (j + 1) * (1 : Matrix (Fin n) (Fin n) ℝ) a b := by
    by_cases e : a = b
    · subst e; simp [charP]
    · simp [Matrix.one_apply_ne e]
  have hc := congrArg (fun M : Matrix (Fin n) (Fin n) ℝ[X] => (M a b).coeff (j + 1)) h
  simp only [hl, hr, coeff_sub, coeff_X_mul, finset_sum_coeff, coeff_C_mul] at hc
  simp only [Matrix.add_apply, Matrix.mul_apply, Matrix.smul_apply, smul_eq_mul, adjC]
  linarith

theorem charP_card (A : Matrix (Fin n) (Fin n) ℝ) : (charP A).coeff n = 1 := by
  have := Polynomial.coeff_det_X_add_C_card (1 : Matrix (Fin n) (Fin n) ℝ) (-A)
  simpa [charP, charM] using this

theorem charP_large (A : Matrix (Fin n) (Fin n) ℝ) (j : ℕ) (h : n < j) : (charP A).coeff j = 0 := by
  refine Polynomial.coeff_eq_zero_of_natDegree_lt (lt_of_le_of_lt ?_ h)
  have := Polynomial.natDegree_det_X_add_C_le (1 : Matrix (Fin n) (Fin n) ℝ) (-A)
  simpa [charP, charM] using this

theorem charP_zero (A : Matrix (Fin n) (Fin n) ℝ) : (charP A).coeff 0 = (-A).det := by
  have := Polynomial.coeff_det_X_add_C_zero (1 : Matrix (Fin n) (Fin n) ℝ) (-A)
  simpa [charP, charM] using this

/-- The adjugate has degree less than the size. -/
theorem adjC_large (A : Matrix (Fin n) (Fin n) ℝ) (j : ℕ) (h : n ≤ j) : adjC A j = 0 := by
  obtain ⟨N, hN⟩ : ∃ N, ∀ j, N ≤ j → adjC A j = 0 := by
    refine ⟨(∑ a, ∑ b, ((charM A).adjugate a b).natDegree) + 1, fun j hj => ?_⟩
    ext a b
    refine Polynomial.coeff_eq_zero_of_natDegree_lt (lt_of_le_of_lt ?_ (Nat.lt_of_succ_le hj))
    exact (Finset.single_le_sum (f := fun b => ((charM A).adjugate a b).natDegree) (fun _ _ => Nat.zero_le _) (Finset.mem_univ b)).trans
      (Finset.single_le_sum (f := fun a => ∑ b, ((charM A).adjugate a b).natDegree) (fun _ _ => Nat.zero_le _) (Finset.mem_univ a))
  have key : ∀ d j, N ≤ j + d → n ≤ j → adjC A j = 0 := by
    intro d
    induction d with
    | zero => intro j hj _; exact hN j hj
    | succ d ih =>
      intro j hj hn
      rw [adjC_succ, ih (j + 1) (by omega) (by omega), charP_large A (j + 1) (by omega)]
      simp
  exact key N j (by omega) h

/-- The trace of an adjugate's coefficient. -/
theorem adjC_trace (A : Matrix (Fin n) (Fin n) ℝ) (j : ℕ) :
    (adjC A j).trace = ((j : ℝ) + 1) * (charP A).coeff (j + 1) := by
  have := congrArg (fun p : ℝ[X] => p.coeff (j + 1)) (euler_charP A)
  simp only [euler_coeff, coeff_X_mul, Matrix.trace, Matrix.diag_apply, finset_sum_coeff] at this
  simp only [Matrix.trace, Matrix.diag_apply, adjC]
  rw [← this]; push_cast; ring

/-- What the recurrence computes. -/
theorem fl_eq (A : Matrix (Fin n) (Fin n) ℝ) (k : ℕ) (h : k < n) :
    fl A k = (A * adjC A (n - 1 - k), (charP A).coeff (n - 1 - k)) := by
  have tr : ∀ k, k < n → (A * adjC A (n - 1 - k)).trace = -((k : ℝ) + 1) * (charP A).coeff (n - 1 - k) := by
    intro k hk
    have hsub : ((n - 1 - k : ℕ) : ℝ) = n - 1 - k := by
      rw [Nat.sub_sub, Nat.cast_sub (by omega)]; push_cast; ring
    rcases hj : n - 1 - k with _ | j
    · have h0 : (A * adjC A 0) = -(charP A).coeff 0 • (1 : Matrix (Fin n) (Fin n) ℝ) := by
        have h := Matrix.mul_adjugate (charM A)
        ext a b
        have hl : (charM A * (charM A).adjugate) a b
            = ∑ i, ((if a = i then X * (charM A).adjugate i b else 0) - C (A a i) * (charM A).adjugate i b) := by
          rw [Matrix.mul_apply]
          refine Finset.sum_congr rfl fun i _ => ?_
          by_cases e : a = i
          · subst e; simp [charM]; ring
          · simp [charM, e]
        have hc := congrArg (fun M : Matrix (Fin n) (Fin n) ℝ[X] => (M a b).coeff 0) h
        simp only [hl, finset_sum_coeff, coeff_sub, coeff_C_mul, Finset.sum_sub_distrib] at hc
        have hz : ∀ i, (if a = i then X * (charM A).adjugate i b else 0).coeff 0 = 0 := fun i => by split <;> simp
        simp only [hz, Finset.sum_const_zero, zero_sub] at hc
        simp only [Matrix.mul_apply, Matrix.smul_apply, smul_eq_mul, adjC]
        by_cases e : a = b
        · subst e
          simp only [Matrix.smul_apply, Matrix.one_apply_eq, smul_eq_mul, mul_one] at hc ⊢
          simp only [charP]; linarith
        · simp only [Matrix.smul_apply, Matrix.one_apply_ne e, smul_eq_mul, mul_zero, coeff_zero] at hc ⊢
          linarith
      rw [h0, Matrix.trace_smul, Matrix.trace_one, Fintype.card_fin, smul_eq_mul]
      rw [hj] at hsub
      have : (n : ℝ) = k + 1 := by push_cast at hsub; linarith
      rw [this]; ring
    · have h1 := congrArg Matrix.trace (adjC_succ A j)
      rw [Matrix.trace_add, Matrix.trace_smul, Matrix.trace_one, Fintype.card_fin, smul_eq_mul, adjC_trace] at h1
      rw [hj] at hsub
      have : (n : ℝ) = k + 1 + (j + 1) := by push_cast at hsub; linarith
      rw [this] at h1
      linarith
  induction k with
  | zero =>
    have h1 : adjC A (n - 1 - 0) = 1 := by
      rw [adjC_succ, adjC_large A _ (by omega), show n - 1 - 0 + 1 = n by omega, charP_card]; simp
    have h2 := tr 0 h
    rw [h1, Matrix.mul_one] at h2
    rw [fl, h1, Matrix.mul_one, h2]
    simp
  | succ k ih =>
    have h1 : A * adjC A (n - 1 - k) + (charP A).coeff (n - 1 - k) • (1 : Matrix (Fin n) (Fin n) ℝ) = adjC A (n - 1 - (k + 1)) := by
      rw [adjC_succ A (n - 1 - (k + 1)), show n - 1 - (k + 1) + 1 = n - 1 - k by omega]
    have h2 := tr (k + 1) h
    rw [fl, ih (by omega)]
    simp only [h1, h2]
    have : ((k : ℝ) + 2) ≠ 0 := by positivity
    congr 1
    push_cast
    field_simp
    ring

/-- The last scalar of sixteen steps is the determinant. -/
theorem fl_det (A : Matrix (Fin 16) (Fin 16) ℝ) : (fl A 15).2 = A.det := by
  rw [fl_eq A 15 (by norm_num)]
  show (charP A).coeff 0 = _
  rw [charP_zero, Matrix.det_neg, Fintype.card_fin]
  norm_num

end Cert.Characteristic

end
-- ==== Proof.RefDet.lean ====
/- The reference's recurrence at one sample and configuration, read as real numbers. -/
module

public import proofs.«01_k».proof.Proof.HostDet
public import proofs.«01_k».proof.Proof.Characteristic
public import Idealize.ShloMosaic.Lib.Pointwise
public import Idealize.ShloMosaic.Lib.IdealHost
public import Idealize.ShloMosaic.Lib.Routing.Ops

@[expose] public section

set_option maxRecDepth 16384

noncomputable section

namespace Cert.HostDet

open Cert.ReferenceIdeal Cert.ReferenceIdeal.Gen Idealize.ShloMosaic Idealize.ShloMosaic.TcCoe Idealize.ShloMosaic.Pointwise
open Cert.Characteristic (fl)

theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem word_eq (i j : Fin 16) : IntOp.cmpi .eq (BitVec.ofNat 32 i.val + 0#32) (BitVec.ofNat 32 j.val) = if i = j then 1#1 else 0#1 := by
  revert i j; decide

theorem word_float : FloatOps.uitofp (F := Ideal) .f32 (1#1 : BitVec 1) = ((1 : ℝ) : EReal) ∧ FloatOps.uitofp (F := Ideal) .f32 (0#1 : BitVec 1) = ((0 : ℝ) : EReal) := by
  constructor <;> simp [FloatOps.uitofp]

/-- A word below 64 is one of 64 words. -/
theorem small (v : BitVec 32) (h : v.toNat < 64) : ∃ n : Fin 64, v = BitVec.ofNat 32 n.val :=
  ⟨⟨v.toNat, h⟩, by simp⟩

/-- The identity matrix. -/
theorem eyes_at (b : Fin 2048) (l : Fin 128) (i j : Fin 16) :
    eyes (F := Ideal) (ix4 b l i j) = (((1 : Matrix (Fin 16) (Fin 16) ℝ) i j : ℝ) : EReal) := by
  pointwise [eyes, eye]
  show FloatOps.uitofp (F := Ideal) .f32 (IntOp.cmpi .eq (BitVec.ofNat 32 i.val + 0#32) (BitVec.ofNat 32 j.val)) = _
  rw [word_eq]
  by_cases h : i = j
  · rw [if_pos h, word_float.1, h, Matrix.one_apply_eq]
  · rw [if_neg h, word_float.2, Matrix.one_apply_ne h]

/-- The negated trace. -/
theorem negTrace_at (b : Fin 2048) (l : Fin 128) (m : FVec Ideal S2048x128x16x16 .f32) (M : Matrix (Fin 16) (Fin 16) ℝ)
    (h : ∀ i j, m (ix4 b l i j) = (M i j : EReal)) :
    negTrace m (ix4 b l 0 0) = ((-M.trace : ℝ) : EReal) := by
  pointwise [negTrace]
  simp only [h, eyes_at, ← EReal.coe_mul, ← real_sum, ← EReal.coe_neg]
  congr 2
  simp [Matrix.trace, Matrix.one_apply]

theorem scalarOf_at (b : Fin 2048) (l : Fin 128) (m : FVec Ideal S2048x128x16x16 .f32) (w : BitVec 32) :
    scalarOf m w (ix4 b l 0 0) = Ideal.div (negTrace m (ix4 b l 0 0)) (Ideal.ofBits .f32 w) := by
  pointwise [scalarOf]

theorem nextOf_at (b : Fin 2048) (l : Fin 128) (a m : FVec Ideal S2048x128x16x16 .f32) (c : FVec Ideal S2048x128x1x1 .f32) (i j : Fin 16) :
    nextOf a m c (ix4 b l i j) = ∑ k : Fin 16, a (ix4 b l i k) * (m (ix4 b l k j) + c (ix4 b l 0 0) * eyes (F := Ideal) (ix4 b l k j)) := by
  pointwise [nextOf]

/-- The divisors of the recurrence. -/
theorem number_at (k : ℕ) (h : k < 15) : Ideal.ofBits .f32 (numbers.getD k 0#32) = ((((k + 2 : ℕ) : ℝ)) : EReal) := by
  interval_cases k <;> simp [numbers, Ideal.ofBits, Ideal.ieee] <;> norm_num
  all_goals rw [← EReal.coe_mul]; congr 1; norm_num

/-- The recurrence is the one over the reals. -/
theorem recur_at (b : Fin 2048) (l : Fin 128) (a : FVec Ideal S2048x128x16x16 .f32) (A : Matrix (Fin 16) (Fin 16) ℝ)
    (h : ∀ i j, a (ix4 b l i j) = (A i j : EReal)) : ∀ k : ℕ, k ≤ 15 →
      (∀ i j, (recur a k).1 (ix4 b l i j) = ((fl A k).1 i j : EReal)) ∧ (recur a k).2 (ix4 b l 0 0) = ((fl A k).2 : EReal)
  | 0, _ => ⟨h, negTrace_at b l a A h⟩
  | k + 1, hk => by
    have ih := recur_at b l a A h k (by omega)
    have hm : ∀ i j, (recur a (k + 1)).1 (ix4 b l i j) = ((fl A (k + 1)).1 i j : EReal) := fun i j => by
      show nextOf a (recur a k).1 (recur a k).2 (ix4 b l i j) = _
      rw [nextOf_at]
      simp only [h, ih.1, ih.2, eyes_at, ← EReal.coe_mul, ← EReal.coe_add, ← real_sum]
      rfl
    refine ⟨hm, ?_⟩
    show scalarOf (recur a (k + 1)).1 (numbers.getD k 0#32) (ix4 b l 0 0) = _
    have hn : (((k + 2 : ℕ) : ℝ)) ≠ 0 := by positivity
    rw [scalarOf_at, negTrace_at b l _ _ hm, number_at k (by omega), Ideal.div_coe hn, ← EReal.coe_mul]
    refine congrArg _ ?_
    show -(fl A (k + 1)).1.trace * (1 / ((k + 2 : ℕ) : ℝ)) = -(fl A (k + 1)).1.trace / ((k : ℝ) + 2)
    push_cast
    rw [mul_one_div]

theorem hostDet_at (b : Fin 2048) (l : Fin 128) (a : FVec Ideal S2048x128x16x16 .f32) :
    hostDet a (ix2 b l) = (recur a 15).2 (ix4 b l 0 0) := by
  pointwise [hostDet]

/-- The recurrence's result is the determinant. -/
theorem hostDet_eq (b : Fin 2048) (l : Fin 128) (a : FVec Ideal S2048x128x16x16 .f32) (A : Matrix (Fin 16) (Fin 16) ℝ)
    (h : ∀ i j, a (ix4 b l i j) = (A i j : EReal)) : hostDet a (ix2 b l) = (A.det : EReal) := by
  rw [hostDet_at, (recur_at b l a A h 15 le_rfl).2, Cert.Characteristic.fl_det]

theorem hostOut_at (t : Fin 256) (s : Fin 8) (l : Fin 128) (a b : FVec Ideal S2048x128x16x16 .f32) :
    hostOut a b (ix3 t s l) = (hostDet a (ix2 ⟨t.val * 8 + s.val, by omega⟩ l) : EReal) * hostDet b (ix2 ⟨t.val * 8 + s.val, by omega⟩ l) := by
  pointwise [hostOut]

theorem upper_at (b : Fin 2048) (e : Fin 16) (o : Fin 64) (x : FVec Ideal S2048x32x64 .f32) :
    upper x (ix3 b e o) = x (ix3 b ⟨e.val, by omega⟩ o) := by
  pointwise [upper]
theorem lower_at (b : Fin 2048) (e : Fin 16) (o : Fin 64) (x : FVec Ideal S2048x32x64 .f32) :
    lower x (ix3 b e o) = x (ix3 b ⟨16 + e.val, by omega⟩ o) := by
  pointwise [lower]

theorem wrap_word : ∀ n : Fin 64, Scalar.select (IntOp.cmpi CmpIPredicate.slt (BitVec.ofNat 32 n.val) 0#32) (IntOp.addi (BitVec.ofNat 32 n.val) 64#32) (BitVec.ofNat 32 n.val) = BitVec.ofNat 32 n.val := by decide
theorem inside_word : ∀ n : Fin 64, IntOp.andi (IntOp.andi (IntOp.cmpi CmpIPredicate.sge (BitVec.ofNat 32 n.val) 0#32) (IntOp.cmpi CmpIPredicate.sle (BitVec.ofNat 32 n.val) 63#32)) 1#1 = 1#1 := by decide

theorem wrap_at (l : Fin 128) (j : Fin 16) (i : IVec S128x16 32) (h : (i (ix2 l j)).toNat < 64) :
    wrap i (ix3 l j 0) = i (ix2 l j) := by
  pointwise [wrap]
  obtain ⟨n, hn⟩ := small _ h
  rw [hn]
  exact wrap_word n
theorem inside_at (l : Fin 128) (j : Fin 16) (i : IVec S128x16 32) (h : (i (ix2 l j)).toNat < 64) :
    inside i (ix2 l j) = 1#1 := by
  pointwise [inside]
  rw [show (Finset.univ : Finset (Fin 1)) = {0} from rfl, Finset.fold_singleton, wrap_at l j i h]
  obtain ⟨n, hn⟩ := small _ h
  rw [hn]
  exact inside_word n

/-- A gathered entry. -/
theorem gather_at (x : FVec Ideal S2048x16x64 .f32) (w : IVec S128x16x1 32) (b : Fin 2048) (e : Fin 16) (l : Fin 128) (j : Fin 16) (h : (w (ix3 l j 0)).toNat < 64) :
    Host.gather gather_S2048x16x64_S128x16x1_S2048x16x128x16_01_2_n_n_2_2_2048161 x w (ix4 b e l j) = x (ix3 b e ⟨(w (ix3 l j 0)).toNat, h⟩) := by
  unfold Host.gather
  refine congrArg x (funext fun a => Fin.ext ?_)
  generalize hd : gather_S2048x16x64_S128x16x1_S2048x16x128x16_01_2_n_n_2_2_2048161 = d
  have hbN : ∀ a', a' ∉ d.operandBatchingDims := fun a' => by subst hd; exact List.not_mem_nil
  match a with
  | ⟨0, _⟩ =>
    show d.start (ix4 b e l j) w 0 + d.batchCoord (ix4 b e l j) 0 + d.offCoord (ix4 b e l j) 0 = b.val
    rw [d.batchCoord_eq_zero _ _ (hbN 0)]
    subst hd
    unfold GatherDims.start GatherDims.offCoord
    rw [dif_neg (by decide), dif_pos (by decide), Nat.zero_add]
    rfl
  | ⟨1, _⟩ =>
    show d.start (ix4 b e l j) w 1 + d.batchCoord (ix4 b e l j) 1 + d.offCoord (ix4 b e l j) 1 = e.val
    rw [d.batchCoord_eq_zero _ _ (hbN 1)]
    subst hd
    unfold GatherDims.start GatherDims.offCoord
    rw [dif_neg (by decide), dif_pos (by decide), Nat.zero_add]
    rfl
  | ⟨2, _⟩ =>
    have hk : (2 : Fin 3) ∉ d.sKept := fun h => ((d.mem_sKept 2).1 h).1 (by subst hd; exact List.mem_singleton.2 rfl)
    have hm : (2 : Fin 3) ∈ d.startIndexMap := by subst hd; exact List.mem_singleton.2 rfl
    show d.start (ix4 b e l j) w 2 + d.batchCoord (ix4 b e l j) 2 + d.offCoord (ix4 b e l j) 2 = (w (ix3 l j 0)).toNat
    rw [d.batchCoord_eq_zero _ _ (hbN 2), d.offCoord_eq_zero _ _ hk]
    simp only [Nat.add_zero]
    unfold GatherDims.start
    rw [dif_pos hm]
    have hsi : d.siIdx (ix4 b e l j) ⟨d.startIndexMap.idxOf 2, List.idxOf_lt_length_iff.2 hm⟩ = ix3 l j (0 : Fin 1) := by
      subst hd
      funext b'
      apply Fin.ext
      match b' with
      | ⟨0, _⟩ => rfl
      | ⟨1, _⟩ => rfl
      | ⟨2, _⟩ => rfl
    rw [hsi]
    subst hd
    show min (w (ix3 l j 0)).toInt.toNat (64 - 1) = (w (ix3 l j 0)).toNat
    have hi : (w (ix3 l j 0)).toInt = ((w (ix3 l j 0)).toNat : Int) := BitVec.toInt_eq_toNat_of_lt (by omega)
    rw [hi]
    omega

/-- A chosen entry. -/
theorem chosen_at (x : FVec Ideal S2048x16x64 .f32) (i : IVec S128x16 32) (b : Fin 2048) (l : Fin 128) (e j : Fin 16) (h : (i (ix2 l j)).toNat < 64) :
    chosen x i (ix4 b l e j) = x (ix3 b e ⟨(i (ix2 l j)).toNat, h⟩) := by
  have h' : (wrap i (ix3 l j 0)).toNat < 64 := by rw [wrap_at l j i h]; exact h
  have e1 : chosen x i (ix4 b l e j) = Scalar.select (inside i (ix2 l j)) (Host.gather gather_S2048x16x64_S128x16x1_S2048x16x128x16_01_2_n_n_2_2_2048161 x (wrap i) (ix4 b e l j)) (Ideal.ofBits .f32 0x7FC00000#32) := by
    pointwise [chosen]
  rw [e1, inside_at l j i h, gather_at x (wrap i) b e l j h']
  simp only [wrap_at l j i h]
  rfl

/-- The matrix of chosen orbitals, as real numbers. -/
def orbit (x : FVec Ideal S2048x32x64 .f32) (i : IVec S128x16 32) (h : ∀ l j, (i (ix2 l j)).toNat < 64) (z : Fin 2) (b : Fin 2048) (l : Fin 128) : Matrix (Fin 16) (Fin 16) ℝ :=
  fun e j => (x (ix3 b ⟨16 * z.val + e.val, by omega⟩ ⟨(i (ix2 l j)).toNat, h l j⟩) : EReal).toReal

/-- The reference at an element. -/
theorem refOut_at (x : FVec Ideal S2048x32x64 .f32) (u d : IVec S128x16 32) (hx : ∀ i, ∃ r : ℝ, x i = (r : EReal))
    (hu : ∀ l j, (u (ix2 l j)).toNat < 64) (hd : ∀ l j, (d (ix2 l j)).toNat < 64) (t : Fin 256) (s : Fin 8) (l : Fin 128) :
    refOut x u d (ix3 t s l) = ((orbit x u hu 0 ⟨t.val * 8 + s.val, by omega⟩ l).det : EReal) * ((orbit x d hd 1 ⟨t.val * 8 + s.val, by omega⟩ l).det : EReal) := by
  have real : ∀ i, x i = (((x i : EReal).toReal : ℝ) : EReal) := fun i => by obtain ⟨r, hr⟩ := hx i; rw [hr]; simp
  unfold refOut
  rw [hostOut_at]
  refine congr (congrArg _ (hostDet_eq _ _ _ _ fun i j => ?_)) (hostDet_eq _ _ _ _ fun i j => ?_)
  · rw [chosen_at _ _ _ _ _ _ (hu l j), upper_at, real]
    refine congrArg _ (congrArg _ (congrArg x ?_))
    exact congrArg (fun q => ix3 _ q _) (Fin.ext (by show i.val = 16 * 0 + i.val; omega))
  · rw [chosen_at _ _ _ _ _ _ (hd l j), lower_at, real]
    rfl

end Cert.HostDet

end
-- ==== Proof.KernelOut.lean ====
/- What the kernel leaves in its result. -/
module

public import proofs.«01_k».proof.Proof.Pieces
public import proofs.«01_k».proof.Proof.Lane
public import proofs.«01_k».proof.Proof.RefDet
public import proofs.«01_k».proof.Proof.Gen.KernelIdeal.Value
public import Idealize.ShloMosaic.Lib.Pipeline.ValueKit
public import Idealize.ShloMosaic.Lib.WholeRead
public import Idealize.ShloMosaic.Lib.WritesUnit
public import Idealize.ShloMosaic.Lib.StableHlo.ReadAt
public import Idealize.ShloMosaic.Lib.Claim
public import Idealize.ShloMosaic.Lib.Pointwise

@[expose] public section

set_option maxRecDepth 16384

noncomputable section

namespace Cert.Householder

open Cert.KernelIdeal Cert.KernelIdeal.Gen Idealize.ShloMosaic Idealize.ShloMosaic.TcCoe Idealize.ShloMosaic.Pointwise Idealize.ShloMosaic.View

/-- The stores read back: the row of sample `s`. -/
theorem read_row {κ : Kind} {sp : Space} (v : View sig κ sp S1x8x128 .f32) (f : v.ty.Contents (Elt Ideal)) (x0 x1 : Vec Ideal S128x64 .f32) (x2 x3 : Vec Ideal S64x2048 .f32) (s : Fin 8) (l : Fin 128) :
    ∀ L : List (Fin 8), s ∈ L → v.read (Elt Ideal) (v.writes (Elt Ideal) f (L.map (piece x0 x1 x2 x3))) (ix3 0 s l) = rowOut s x0 x1 x2 x3 (ix3 0 0 l)
  | [], h => absurd h List.not_mem_nil
  | a :: L, h => by
    rw [List.map_cons]
    by_cases e : a = s
    · subst e
      exact read_writes_cons_unit_of_mem v f (row_inb a) _ _ (ix3 0 a l) (ix3 0 0 l) rfl fun k => by
        match k with
        | ⟨0, _⟩ => rfl
        | ⟨1, _⟩ => rfl
        | ⟨2, _⟩ => exact (Nat.zero_add _).symm
    · refine (read_writes_cons_unit_of_not_mem v f (row_inb a) _ _ (ix3 0 s l) rfl 1 ?_).trans (read_row v f x0 x1 x2 x3 s l L ((List.mem_cons.1 h).resolve_left fun q => e q.symm))
      show s.val < a.val ∨ a.val + 1 ≤ s.val
      have : a.val ≠ s.val := fun q => e (Fin.ext q)
      omega

theorem loadX_eq (a : Memref sig .tc .vmem S128x64 .f32) (h : a.IsWhole) (x : Vec Ideal S128x64 .f32) : loadX a h x = x := by
  funext y
  refine (h.readAt_unread x (Rect.unit (s := S128x64) ![0, 0] S128x64.size inb_S128x64_S128x64_0_0).toLoadRect y).trans (congrArg x (funext fun k => Fin.ext ?_))
  match k with
  | ⟨0, _⟩ => (show 0 + 1 * (y 0).val = (y 0).val; omega)
  | ⟨1, _⟩ => (show 0 + 1 * (y 1).val = (y 1).val; omega)
theorem loadO_eq (a : Memref sig .tc .vmem S64x2048 .f32) (h : a.IsWhole) (x : Vec Ideal S64x2048 .f32) : loadO a h x = x := by
  funext y
  refine (h.readAt_unread x (Rect.unit (s := S64x2048) ![0, 0] S64x2048.size inb_S64x2048_S64x2048_0_0).toLoadRect y).trans (congrArg x (funext fun k => Fin.ext ?_))
  match k with
  | ⟨0, _⟩ => (show 0 + 1 * (y 0).val = (y 0).val; omega)
  | ⟨1, _⟩ => (show 0 + 1 * (y 1).val = (y 1).val; omega)

theorem mem_all (s : Fin 8) : s ∈ ([7, 6, 5, 4, 3, 2, 1, 0] : List (Fin 8)) := by revert s; decide

/-- A row of the block after the stores. -/
theorem out_row (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S1x8x128 .f32) (harg5 : arg5.IsWhole) (arg6 : Memref sig .tc .vmem S8x128 .f32) (harg6 : arg6.IsWhole)
    (x0 x1 : Vec Ideal S128x64 .f32) (x2 x3 : Vec Ideal S64x2048 .f32)
    (y : S1x8x128.Idx) : out0_A_4 c i arg1 harg1 arg2 harg2 arg3 harg3 arg4 harg4 arg5 harg5 arg6 harg6 x0 x1 x2 x3 y = rowOut (y 1) x0 x1 x2 x3 (ix3 0 0 (y 2)) := by
  have hy : y = ix3 0 (y 1) (y 2) := by
    funext a
    match a with
    | ⟨0, _⟩ => exact Subsingleton.elim (α := Fin 1) _ _
    | ⟨1, _⟩ => rfl
    | ⟨2, _⟩ => rfl
  unfold out0_A_4
  rw [pieces_eq, loadX_eq, loadX_eq, loadO_eq, loadO_eq]
  have key := read_row VO0_4 VO0_4.junk x0 x1 x2 x3 (y 1) (y 2) _ (mem_all (y 1))
  exact (congrArg _ hy).trans key

/-! ## The staged operands -/

theorem at2 {α : Type} {A B : ℕ} (x : (⟨2, ![A, B]⟩ : Shape).Idx → α) {i i' : Fin A} {j j' : Fin B} (hi : i.val = i'.val) (hj : j.val = j'.val) :
    x (ix2 i j) = x (ix2 i' j') := by
  obtain rfl := Fin.ext hi
  obtain rfl := Fin.ext hj
  rfl
theorem at3 {α : Type} {A B C : ℕ} (x : (⟨3, ![A, B, C]⟩ : Shape).Idx → α) {i i' : Fin A} {j j' : Fin B} {k k' : Fin C} (hi : i.val = i'.val) (hj : j.val = j'.val) (hk : k.val = k'.val) :
    x (ix3 i j k) = x (ix3 i' j' k') := by
  obtain rfl := Fin.ext hi
  obtain rfl := Fin.ext hj
  obtain rfl := Fin.ext hk
  rfl

/-- The orbitals of the upper half, sample under sample. -/
def orbX0 (x : Vec Ideal S2048x32x64 .f32) : Vec Ideal S32768x64 .f32 :=
  shapeCast S32768x64 (extractStridedSlice S2048x16x64 ![0, 0, 0] x slices_S2048x32x64_S2048x16x64_0_0_0) shapeCasts_S2048x16x64_S32768x64
/-- The orbitals of the lower half, sample under sample. -/
def orbX1 (x : Vec Ideal S2048x32x64 .f32) : Vec Ideal S32768x64 .f32 :=
  shapeCast S32768x64 (extractStridedSlice S2048x16x64 ![0, 16, 0] x slices_S2048x32x64_S2048x16x64_0_16_0) shapeCasts_S2048x16x64_S32768x64
/-- The selection of the indices `u`. -/
def pick (u : IVec S128x16 32) : Vec Ideal S64x2048 .f32 :=
  shapeCast S64x2048 (uitofp (F := Ideal) .f32 (cmpi .eq
    (broadcastInDim S64x16x128 ![0, 1, 2] bcast_S1x16x128_S64x16x128_0_1_2 (broadcastInDim S1x16x128 ![1, 2] bcast_S16x128_S1x16x128_1_2 (transpose S16x128 [1, 0] u transposes_S128x16_S16x128_1_0)))
    (broadcastInDim S64x16x128 ![0, 1, 2] bcast_S64x1x1_S64x16x128_0_1_2 (broadcastInDim S64x1x1 ![0] bcast_S64_S64x1x1_0 (iotaInDim S64 32 0))))) shapeCasts_S64x16x128_S64x2048

theorem orbX0_at (x : Vec Ideal S2048x32x64 .f32) (p : Fin 32768) (k : Fin 64) (q : Fin 2048) (e : Fin 16) (h : p.val = 16 * q.val + e.val) :
    orbX0 x (ix2 p k) = x (ix3 q ⟨16 * 0 + e.val, by omega⟩ k) := by
  pointwise [orbX0]
  all_goals (refine at3 x ?_ ?_ ?_ <;> first | rfl | omega | (dsimp only; omega) | (simp; omega) | simp)
theorem orbX1_at (x : Vec Ideal S2048x32x64 .f32) (p : Fin 32768) (k : Fin 64) (q : Fin 2048) (e : Fin 16) (h : p.val = 16 * q.val + e.val) :
    orbX1 x (ix2 p k) = x (ix3 q ⟨16 * 1 + e.val, by omega⟩ k) := by
  pointwise [orbX1]
  all_goals (refine at3 x ?_ ?_ ?_ <;> first | rfl | omega | (dsimp only; omega) | (simp; omega) | simp)
theorem pick_at (u : IVec S128x16 32) (k : Fin 64) (j : Fin 16) (l : Fin 128) :
    pick u (ix2 k ⟨128 * j.val + l.val, by omega⟩) = FloatOps.uitofp (F := Ideal) .f32 (IntOp.cmpi .eq (u (ix2 l j)) (BitVec.ofNat 32 k.val)) := by
  pointwise [pick]
  all_goals (refine congrArg (fun v => FloatOps.uitofp (F := Ideal) .f32 (IntOp.cmpi .eq v (BitVec.ofNat 32 k.val))) (at2 u ?_ ?_) <;> first | rfl | omega | (dsimp only; omega) | (simp; omega) | simp)

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0] ∧ win0_4.index t = ![t.val, 0, 0] := (by decide +kernel : ∀ t : Fin grid0.N, _)
theorem points : cfg0.N = 256 := by decide +kernel

theorem entry0 (c : Dev nD) : V m c main_v1 = orbX0 (m ((c.tc : Thread nD τ).loc main_arg0)) := by
  entry_read; rfl
theorem entry1 (c : Dev nD) : V m c main_v3 = orbX1 (m ((c.tc : Thread nD τ).loc main_arg0)) := by
  entry_read; rfl
theorem entry2 (c : Dev nD) : V m c main_v12 = pick (m ((c.tc : Thread nD τ).loc main_arg1)) := by
  entry_read; rfl
theorem entry3 (c : Dev nD) : V m c main_v20 = pick (m ((c.tc : Thread nD τ).loc main_arg2)) := by
  entry_read; rfl
theorem blk0 (c : Dev nD) (t : Fin cfg0.N) (r : Fin 128) (k : Fin 64) (p : Fin 32768) (h : p.val = 128 * t.val + r.val) :
    (iblk m c 0 t : Vec Ideal S128x64 .f32) (ix2 r k) = (V m c main_v1 : Vec Ideal S32768x64 .f32) (ix2 p k) := by
  blk_ext [iblk, idx t]
theorem blk1 (c : Dev nD) (t : Fin cfg0.N) (r : Fin 128) (k : Fin 64) (p : Fin 32768) (h : p.val = 128 * t.val + r.val) :
    (iblk m c 1 t : Vec Ideal S128x64 .f32) (ix2 r k) = (V m c main_v3 : Vec Ideal S32768x64 .f32) (ix2 p k) := by
  blk_ext [iblk, idx t]
theorem blk2 (c : Dev nD) (t : Fin cfg0.N) (k : Fin 64) (p : Fin 2048) :
    (iblk m c 2 t : Vec Ideal S64x2048 .f32) (ix2 k p) = (V m c main_v12 : Vec Ideal S64x2048 .f32) (ix2 k p) := by
  blk_ext [iblk, idx t]
theorem blk3 (c : Dev nD) (t : Fin cfg0.N) (k : Fin 64) (p : Fin 2048) :
    (iblk m c 3 t : Vec Ideal S64x2048 .f32) (ix2 k p) = (V m c main_v20 : Vec Ideal S64x2048 .f32) (ix2 k p) := by
  blk_ext [iblk, idx t]

/-! ## The selected columns -/

theorem eq_word : ∀ n k : Fin 64, IntOp.cmpi CmpIPredicate.eq (BitVec.ofNat 32 n.val) (BitVec.ofNat 32 k.val) = if n = k then 1#1 else 0#1 := by
  decide +kernel

/-- A sum against a selection is the selected term. -/
theorem pick_sum (f : Fin 64 → EReal) (v : BitVec 32) (h : v.toNat < 64) :
    (∑ k : Fin 64, f k * (FloatOps.uitofp (F := Ideal) .f32 (IntOp.cmpi CmpIPredicate.eq v (BitVec.ofNat 32 k.val)) : EReal)) = f ⟨v.toNat, h⟩ := by
  obtain ⟨n, hn⟩ := Cert.HostDet.small v h
  have e : (⟨v.toNat, h⟩ : Fin 64) = n := Fin.ext (by
    subst hn
    show (BitVec.ofNat 32 n.val).toNat = n.val
    rw [BitVec.toNat_ofNat]
    omega)
  rw [e, hn, Finset.sum_eq_single n]
  · rw [eq_word, if_pos rfl, Cert.HostDet.word_float.1, EReal.coe_one, mul_one]
  · intro k _ hk
    rw [eq_word, if_neg (fun q => hk q.symm), Cert.HostDet.word_float.2, EReal.coe_zero, mul_zero]
  · exact fun q => absurd (Finset.mem_univ n) q

theorem gathered_eq (X : Vec Ideal S128x64 .f32) (O : Vec Ideal S64x2048 .f32) (f : Fin 64 → EReal) (v : BitVec 32) (h : v.toNat < 64) (p : Fin 128) (q : Fin 2048)
    (hX : ∀ k, X (ix2 p k) = f k) (hO : ∀ k, O (ix2 k q) = FloatOps.uitofp (F := Ideal) .f32 (IntOp.cmpi CmpIPredicate.eq v (BitVec.ofNat 32 k.val))) :
    gathered X O (ix2 p q) = f ⟨v.toNat, h⟩ := by
  refine (gathered_at p q X O).trans (Eq.trans (Finset.sum_congr rfl fun k _ => ?_) (pick_sum f v h))
  exact congr (congrArg _ (hX k)) (hO k)

theorem rep_of (X : Vec Ideal S128x64 .f32) (O : Vec Ideal S64x2048 .f32) (A : Matrix (Fin 16) (Fin 16) ℝ) (s : Fin 8) (l : Fin 128)
    (h : ∀ e j : Fin 16, gathered X O (ix2 ⟨16 * s.val + e.val, by omega⟩ ⟨128 * j.val + l.val, by omega⟩) = (A e j : EReal)) :
    Rep (colsOf (sample s (gathered X O))) l A := fun r j => by
  have hj : Fin.ofNat 16 j.val = j := Fin.ext (Nat.mod_eq_of_lt j.isLt)
  constructor
  · show half 0 (Fin.ofNat 16 j.val) (sample s (gathered X O)) (ix2 r l) = _
    rw [hj, half_at, sample_at]
    refine Eq.trans ?_ (h (Fin.castAdd 8 r) j)
    exact at2 (gathered X O) (by show 16 * s.val + (8 * 0 + r.val) = 16 * s.val + r.val; omega) rfl
  · show half 1 (Fin.ofNat 16 j.val) (sample s (gathered X O)) (ix2 r l) = _
    rw [hj, half_at, sample_at]
    refine Eq.trans ?_ (h (Fin.natAdd 8 r) j)
    exact at2 (gathered X O) (by show 16 * s.val + (8 * 1 + r.val) = 16 * s.val + (8 + r.val); omega) rfl

/-- One sample's row is the reference's. -/
theorem point (c : Dev nD) (t : Fin cfg0.N) (s : Fin 8) (l : Fin 128) (x : Vec Ideal S2048x32x64 .f32) (u d : IVec S128x16 32)
    (ex : m ((c.tc : Thread nD τ).loc main_arg0) = x) (eu : m ((c.tc : Thread nD τ).loc main_arg1) = u) (ed : m ((c.tc : Thread nD τ).loc main_arg2) = d)
    (hx : ∀ i, ∃ r : ℝ, x i = (r : EReal)) (hu : ∀ l j, (u (ix2 l j)).toNat < 64) (hd : ∀ l j, (d (ix2 l j)).toNat < 64) :
    rowOut s (iblk m c 0 t) (iblk m c 1 t) (iblk m c 2 t) (iblk m c 3 t) (ix3 0 0 l) = Cert.HostDet.refOut x u d (ix3 ⟨t.val, lt_of_lt_of_eq t.isLt points⟩ s l) := by
  have ht : t.val < 256 := lt_of_lt_of_eq t.isLt points
  have real : ∀ i, x i = (((x i : EReal).toReal : ℝ) : EReal) := fun i => by obtain ⟨r, hr⟩ := hx i; rw [hr]; simp
  refine (rowOut_at s l _ _ _ _).trans (Eq.trans ?_ (Cert.HostDet.refOut_at x u d hx hu hd ⟨t.val, ht⟩ s l).symm)
  refine congr (congrArg _ (dets_at _ l _ (rep_of _ _ _ s l fun e j => ?_))) (dets_at _ l _ (rep_of _ _ _ s l fun e j => ?_))
  · refine (gathered_eq _ _ (fun k => x (ix3 ⟨t.val * 8 + s.val, by omega⟩ ⟨16 * 0 + e.val, by omega⟩ k)) (u (ix2 l j)) (hu l j) _ _ (fun k => ?_) (fun k => ?_)).trans (real _)
    · refine (blk0 m c t _ k ⟨128 * t.val + (16 * s.val + e.val), by omega⟩ rfl).trans ?_
      rw [entry0, ex]
      exact orbX0_at x _ k _ e (by show 128 * t.val + (16 * s.val + e.val) = 16 * (t.val * 8 + s.val) + e.val; omega)
    · refine (blk2 m c t k _).trans ?_
      rw [entry2, eu]
      exact pick_at u k j l
  · refine (gathered_eq _ _ (fun k => x (ix3 ⟨t.val * 8 + s.val, by omega⟩ ⟨16 * 1 + e.val, by omega⟩ k)) (d (ix2 l j)) (hd l j) _ _ (fun k => ?_) (fun k => ?_)).trans (real _)
    · refine (blk1 m c t _ k ⟨128 * t.val + (16 * s.val + e.val), by omega⟩ rfl).trans ?_
      rw [entry1, ex]
      exact orbX1_at x _ k _ e (by show 128 * t.val + (16 * s.val + e.val) = 16 * (t.val * 8 + s.val) + e.val; omega)
    · refine (blk3 m c t k _).trans ?_
      rw [entry3, ed]
      exact pick_at d k j l

/-- What a point leaves in the staged block. -/
theorem stored (c : Dev nD) (t : Fin cfg0.N) (y : S1x8x128.Idx) (x : Vec Ideal S2048x32x64 .f32) (u d : IVec S128x16 32)
    (ex : m ((c.tc : Thread nD τ).loc main_arg0) = x) (eu : m ((c.tc : Thread nD τ).loc main_arg1) = u) (ed : m ((c.tc : Thread nD τ).loc main_arg2) = d)
    (hx : ∀ i, ∃ r : ℝ, x i = (r : EReal)) (hu : ∀ l j, (u (ix2 l j)).toNat < 64) (hd : ∀ l j, (d (ix2 l j)).toNat < 64) :
    (outsAt0 m c t : Vec Ideal S1x8x128 .f32) y = Cert.HostDet.refOut (F := Ideal) x u d (ix3 ⟨t.val, lt_of_lt_of_eq t.isLt points⟩ (y 1) (y 2)) := by
  unfold outsAt0
  exact (out_row c _ _ _ _ _ _ _ _ _ _ _ _ _ _ _ _ _ y).trans (point m c t (y 1) (y 2) x u d ex eu ed hx hu hd)

/-- The kernel's result is the reference's. -/
theorem final (c : Dev nD) (x : Vec Ideal S2048x32x64 .f32) (u d : IVec S128x16 32)
    (ex : m ((c.tc : Thread nD τ).loc main_arg0) = x) (eu : m ((c.tc : Thread nD τ).loc main_arg1) = u) (ed : m ((c.tc : Thread nD τ).loc main_arg2) = d)
    (hx : ∀ i, ∃ r : ℝ, x i = (r : EReal)) (hu : ∀ l j, (u (ix2 l j)).toNat < 64) (hd : ∀ l j, (d (ix2 l j)).toNat < 64) :
    (dats m 0 c).arrAt 4 cfg0.N = Cert.HostDet.refOut (F := Ideal) x u d := by
  refine (dats m 0 c).arrAt_eq_of_covers 4 _ (by decide +kernel) fun t hf y => ?_
  blk_simp
  rw [after0_4]
  refine (stored m c t y x u d ex eu ed hx hu hd).trans ?_
  blk_ext [idx t]

end Cert.Householder

end
-- ==== Proof.Tame.lean ====
/- The precondition read at an element. -/
module

public import proofs.«01_k».proof.Pre_tame
public import Idealize.ShloMosaic.Lib.ReduceAll
public import Idealize.ShloMosaic.Lib.KernelVsHost
public import Idealize.ShloMosaic.Lib.IdealHost

@[expose] public section

noncomputable section

namespace Cert.Tame

open Cert.Pre_tame Idealize.ShloMosaic

theorem both : ∀ a b : BitVec 1, IntOp.andi a b = 1#1 → a = 1#1 ∧ b = 1#1 := by decide
theorem flag : ∀ b : Bool, BitVec.ofBool b = 1#1 → b = true := by decide
theorem flip : ∀ w : BitVec 1, IntOp.xori w 1#1 = 1#1 → w = 0#1 := by decide

theorem range_word (v : BitVec 32) (a : IntOp.cmpi CmpIPredicate.sge v 0#32 = 1#1) (b : IntOp.cmpi CmpIPredicate.slt v 64#32 = 1#1) : v.toNat < 64 := by
  have a1 : (0 : Int) ≤ v.toInt := by
    have q : (0#32).sle v = true := flag _ a
    have := BitVec.sle_iff_toInt_le.1 q
    simpa using this
  have b1 : v.toInt < 64 := by
    have q : v.slt 64#32 = true := flag _ b
    have := BitVec.slt_iff_toInt_lt.1 q
    simpa using this
  have := v.isLt
  rw [BitVec.toInt_eq_toNat_cond] at a1 b1
  split_ifs at a1 b1 <;> omega

theorem finite_of (x : Ideal .f32) (h : FloatOps.cmpf .olt (FloatOps.hostAbsf x) (FloatOps.ofBits (F := Ideal) .f32 0x7F800000#32) = 1#1) : ∃ r : ℝ, x = (r : EReal) := by
  rw [← Ideal.xori_weird_eq_hostAbsf_olt_inf] at h
  have h3 := flip _ h
  have h4 : ¬ ((x : EReal) = ⊤ ∨ (x : EReal) = ⊥) := fun q => by
    have h5 : FloatOps.weird (F := Ideal) x = 1#1 := by
      show BitVec.ofBool (@decide _ _) = 1#1
      rw [decide_eq_true q]; rfl
    rw [h5] at h3
    exact absurd h3 (by decide)
  exact ⟨(x : EReal).toReal, (EReal.coe_toReal (fun q => h4 (Or.inl q)) (fun q => h4 (Or.inr q))).symm⟩

variable [Facts]
open Facts

/-- The precondition: real orbitals, indices below 64. -/
theorem unpack (x : FVec Ideal S2048x32x64 .f32) (u d : IVec S128x16 32) (h : fn (F := Ideal) x u d = fun _ => 1#1) :
    (∀ i, ∃ r : ℝ, x i = (r : EReal)) ∧ (∀ i, (u i).toNat < 64) ∧ (∀ i, (d i).toNat < 64) := by
  haveI : Subsingleton S_.Idx := ⟨fun a b => funext fun k => k.elim0⟩
  have e := congrFun h (fun k => k.elim0)
  unfold fn fn_part1 at e
  obtain ⟨e1, e3⟩ := both _ _ e
  obtain ⟨e1, e2⟩ := both _ _ e1
  refine ⟨fun i => finite_of _ (Host.reduce_andi_all _ _ _ _ _ e1 i), fun i => ?_, fun i => ?_⟩
  · obtain ⟨a, b⟩ := both _ _ (Host.reduce_andi_all _ _ _ _ _ e2 i)
    exact range_word _ a b
  · obtain ⟨a, b⟩ := both _ _ (Host.reduce_andi_all _ _ _ _ _ e3 i)
    exact range_word _ a b

end Cert.Tame

end
-- ==== Proof.RefFrame.lean ====
/-
  The reference's frame: it runs to its end, leaves its three arguments as they were, and — declaring no
  counter at all — ends with every counter at zero.
-/
module

public import proofs.«01_k».proof.Proof.HostDet
public import proofs.«01_k».proof.Defs
public import Idealize.ShloMosaic.Lib.Claim
public import Idealize.ShloMosaic.Init

@[expose] public section

set_option maxRecDepth 16384

noncomputable section

namespace Cert.Proof

open Idealize.ShloMosaic Idealize.ShloMosaic.TcCoe

/-- The reference ends with its arguments unchanged and every counter at zero. -/
theorem refFrame : Cert.quiescent_ReferenceIdeal (hReferenceIdeal := Cert.ReferenceIdeal.Gen.facts) := by
  intro m g _
  refine (θ_run Cert.ReferenceIdeal.defs _ _).mono ?_ (Cert.HostDet.run m g)
  intro r h
  exact ⟨fun c => (h c).2, sem_eq_zero_of_no_sems (by decide) r.2⟩

end Cert.Proof

end
-- ==== Proof.lean ====
module

public import proofs.«01_k».proof.Proof.KernelOut
public import proofs.«01_k».proof.Proof.Tame
public import proofs.«01_k».proof.Proof.RefFrame
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_tame
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame. -/
theorem kernelFrame : Cert.quiescent_Kernel (hKernel := Cert.Kernel.Gen.facts) := fun m g _ => Cert.Kernel.Gen.frame m g

/-- The frame of the idealised kernel. -/
theorem idealFrame : Cert.quiescent_KernelIdeal (hKernelIdeal := Cert.KernelIdeal.Gen.facts) := fun m g _ => Cert.KernelIdeal.Gen.frame m g

/-- The kernel computes the reference's result. -/
theorem equal : Cert.algebraic_KernelIdeal_ReferenceIdeal_pre_tame (hKernelIdeal := Cert.KernelIdeal.Gen.facts) (hReferenceIdeal := Cert.ReferenceIdeal.Gen.facts) (hPre_tame := Cert.Pre_tame.Gen.facts) := by
  intro m g m' g' hP ha
  have hT := fun c => Cert.Tame.unpack _ _ _ (hP c)
  refine ⟨fun c => Cert.HostDet.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.Value.run_blocks m g)
    exact Cert.Householder.final m c _ _ _ rfl rfl rfl (hT c).1 (fun l j => (hT c).2.1 _) (fun l j => (hT c).2.2 _)
  · refine (θ_run _ _ _).mono (fun r h c => ⟨(h c).1.trans ?_, (h c).2⟩) (Cert.HostDet.run m' g')
    obtain ⟨e0, e1, e2⟩ := ha c
    rw [e0, e1, e2]

/-- Everything this certificate claims. -/
theorem claim : Cert.Claim := ⟨Cert.Kernel.Gen.facts, Cert.KernelIdeal.Gen.facts, Cert.ReferenceIdeal.Gen.facts, Cert.Pre_tame.Gen.facts,
  kernelFrame, idealFrame,
  fun m g _ => Cert.KernelIdeal.Gen.frame m g,
  refFrame,
  fun m g _ => refFrame m g trivial,
  by trivial,
  equal⟩

end Cert.Proof

end
